-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x8x256 : Shape := ⟨4, ![1, 2048, 8, 256]⟩
abbrev S768x2048 : Shape := ⟨2, ![768, 2048]⟩
abbrev S768 : Shape := ⟨1, ![768]⟩
abbrev S1x768 : Shape := ⟨2, ![1, 768]⟩
abbrev S2048x768 : Shape := ⟨2, ![2048, 768]⟩
abbrev S1x512x8x256 : Shape := ⟨4, ![1, 512, 8, 256]⟩
abbrev S192x2048 : Shape := ⟨2, ![192, 2048]⟩
abbrev S512x768 : Shape := ⟨2, ![512, 768]⟩
abbrev S8x256x256 : Shape := ⟨3, ![8, 256, 256]⟩
abbrev S8x256x768 : Shape := ⟨3, ![8, 256, 768]⟩
abbrev S8x768x256 : Shape := ⟨3, ![8, 768, 256]⟩
abbrev S512x8x256 : Shape := ⟨3, ![512, 8, 256]⟩
abbrev S8x512x256 : Shape := ⟨3, ![8, 512, 256]⟩
abbrev S1536x256 : Shape := ⟨2, ![1536, 256]⟩
abbrev S768x256 : Shape := ⟨2, ![768, 256]⟩
abbrev S1x768x256 : Shape := ⟨3, ![1, 768, 256]⟩
abbrev S1x256x256 : Shape := ⟨3, ![1, 256, 256]⟩
abbrev S256x256 : Shape := ⟨2, ![256, 256]⟩
abbrev S1x512x256 : Shape := ⟨3, ![1, 512, 256]⟩
abbrev S512x256 : Shape := ⟨2, ![512, 256]⟩
abbrev S256x768 : Shape := ⟨2, ![256, 768]⟩
abbrev S1x256x768 : Shape := ⟨3, ![1, 256, 768]⟩
abbrev S1x2048x768 : Shape := ⟨3, ![1, 2048, 768]⟩

abbrev nBuf : Space → Nat
  | .hbm => 8
  | .vmem => 14
  | .smem => 0
  | _ => 0

abbrev bufTy : (tb : Table) → Fin (tcTables nBuf tb) → BufTy
  | .hbm, ⟨0, _⟩ => ⟨S1x2048x8x256, .f32⟩
  | .hbm, ⟨1, _⟩ => ⟨S1x2048x8x256, .f32⟩
  | .hbm, ⟨2, _⟩ => ⟨S1x2048x8x256, .f32⟩
  | .hbm, ⟨3, _⟩ => ⟨S768x2048, .f32⟩
  | .hbm, ⟨4, _⟩ => ⟨S768, .f32⟩
  | .hbm, ⟨5, _⟩ => ⟨S1x768, .f32⟩
  | .hbm, ⟨6, _⟩ => ⟨S2048x768, .f32⟩
  | .hbm, ⟨7, _⟩ => ⟨S1x2048x768, .f32⟩
  | .local _ .vmem, ⟨0, _⟩ => ⟨S1x512x8x256, .f32⟩
  | .local _ .vmem, ⟨1, _⟩ => ⟨S1x512x8x256, .f32⟩
  | .local _ .vmem, ⟨2, _⟩ => ⟨S1x512x8x256, .f32⟩
  | .local _ .vmem, ⟨3, _⟩ => ⟨S1x512x8x256, .f32⟩
  | .local _ .vmem, ⟨4, _⟩ => ⟨S1x512x8x256, .f32⟩
  | .local _ .vmem, ⟨5, _⟩ => ⟨S1x512x8x256, .f32⟩
  | .local _ .vmem, ⟨6, _⟩ => ⟨S192x2048, .f32⟩
  | .local _ .vmem, ⟨7, _⟩ => ⟨S192x2048, .f32⟩
  | .local _ .vmem, ⟨8, _⟩ => ⟨S1x768, .f32⟩
  | .local _ .vmem, ⟨9, _⟩ => ⟨S512x768, .f32⟩
  | .local _ .vmem, ⟨10, _⟩ => ⟨S512x768, .f32⟩
  | .local _ .vmem, ⟨11, _⟩ => ⟨S8x256x256, .f32⟩
  | .local _ .vmem, ⟨12, _⟩ => ⟨S8x256x768, .bf16⟩
  | .local _ .vmem, ⟨13, _⟩ => ⟨S8x768x256, .bf16⟩
  | _, _ => ⟨S1x2048x8x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let c2_i32 : BitVec 32 := 2#32
  let arg1 : BitVec 32 := BitVec.ofNat 32 (i 1).val
  let v21 : BitVec 32 := Scalar.muli c2_i32 arg1
  let v22 : Index := Scalar.indexCast v21
  let c0_13 : Index := 0#32
  let c0_14 : Index := 0#32
  ![v22.toNat, 0, 0]
def k0_off2 (i : grid0.Coords) : Fin 3 → Nat :=
  let c2_i32_15 : BitVec 32 := 2#32
  let arg1 : BitVec 32 := BitVec.ofNat 32 (i 1).val
  let v27 : BitVec 32 := Scalar.muli c2_i32_15 arg1
  let c1_i32_16 : BitVec 32 := 1#32
  let v28 : BitVec 32 := Scalar.addi v27 c1_i32_16
  let v29 : Index := Scalar.indexCast v28
  let c0_17 : Index := 0#32
  let c0_18 : Index := 0#32
  ![v29.toNat, 0, 0]
def k0_cond4 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  let c0_i32_2 : BitVec 32 := 0#32
  let c0_i32_3 : BitVec 32 := 0#32
  ![c0_i32_0.toNat, v1.toNat, c0_i32_1.toNat, c0_i32_2.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  let c0_i32_2 : BitVec 32 := 0#32
  let c0_i32_3 : BitVec 32 := 0#32
  ![c0_i32_0.toNat, v1.toNat, c0_i32_1.toNat, c0_i32_2.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  let c0_i32_3 : BitVec 32 := 0#32
  let c0_i32_4 : BitVec 32 := 0#32
  ![c0_i32_1.toNat, v1.toNat, c0_i32_2.toNat, c0_i32_3.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

abbrev stage0_0 : Fin 2 → Memref sig .tc .vmem S1x512x8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S192x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S1x2048x8x256 : Shape := ⟨4, ![1, 2048, 8, 256]⟩
abbrev S768x2048 : Shape := ⟨2, ![768, 2048]⟩
abbrev S768 : Shape := ⟨1, ![768]⟩
abbrev S8x768x256 : Shape := ⟨3, ![8, 768, 256]⟩
abbrev S1x8x256x256 : Shape := ⟨4, ![1, 8, 256, 256]⟩
abbrev S1x8x256x1 : Shape := ⟨4, ![1, 8, 256, 1]⟩
abbrev S_ : Shape := ⟨0, ![]⟩
abbrev S1x8x256x257 : Shape := ⟨4, ![1, 8, 256, 257]⟩
abbrev S1x768 : Shape := ⟨2, ![1, 768]⟩
abbrev S8x768 : Shape := ⟨2, ![8, 768]⟩
abbrev S8x768x1 : Shape := ⟨3, ![8, 768, 1]⟩
abbrev S8x768x257 : Shape := ⟨3, ![8, 768, 257]⟩
abbrev S8x768x1x256 : Shape := ⟨4, ![8, 768, 1, 256]⟩
abbrev S1x2048x768 : Shape := ⟨3, ![1, 2048, 768]⟩

abbrev nBuf : Space → Nat
  | .hbm => 17
  | .vmem => 0
  | .smem => 0
  | _ => 0

abbrev bufTy : (tb : Table) → Fin (tcTables nBuf tb) → BufTy
  | .hbm, ⟨0, _⟩ => ⟨S1x2048x8x256, .f32⟩
  | .hbm, ⟨1, _⟩ => ⟨S1x2048x8x256, .f32⟩
  | .hbm, ⟨2, _⟩ => ⟨S1x2048x8x256, .f32⟩
  | .hbm, ⟨3, _⟩ => ⟨S768x2048, .f32⟩
  | .hbm, ⟨4, _⟩ => ⟨S768, .f32⟩
  | .hbm, ⟨5, _⟩ => ⟨S8x768x256, .f32⟩
  | .hbm, ⟨6, _⟩ => ⟨S1x8x256x256, .f32⟩
  | .hbm, ⟨7, _⟩ => ⟨S1x8x256x1, .f32⟩
  | .hbm, ⟨8, _⟩ => ⟨S_, .f32⟩
  | .hbm, ⟨9, _⟩ => ⟨S1x8x256x1, .f32⟩
  | .hbm, ⟨10, _⟩ => ⟨S1x8x256x257, .f32⟩
  | .hbm, ⟨11, _⟩ => ⟨S1x768, .f32⟩
  | .hbm, ⟨12, _⟩ => ⟨S8x768, .f32⟩
  | .hbm, ⟨13, _⟩ => ⟨S8x768x1, .f32⟩
  | .hbm, ⟨14, _⟩ => ⟨S8x768x257, .f32⟩
  | .hbm, ⟨15, _⟩ => ⟨S8x768x1x256, .f32⟩
  | .hbm, ⟨16, _⟩ => ⟨S1x2048x768, .f32⟩
  | _, _ => ⟨S1x2048x8x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== Proof.Ideal.Base.lean ====
/- What the four runs of the kernel body share: the branch conditions in closed form over the grid's points, where
   the result's window is idle, the memrefs the body is called with, and the scratch buffers as owned memrefs. -/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Moe

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- The first sweep over the token tiles is running. -/
abbrev cP0 (i : grid0.Coords) : Prop := k0_cond1 i = 1#1
/-- The tile is the sweep's first. -/
abbrev cFirst (i : grid0.Coords) : Prop :=
  (Scalar.cmpi .ne (Scalar.extui (Scalar.cmpi .eq (BitVec.ofNat 32 (i 1).val) 0#32)) 0#32) = 1#1
/-- The tile is the sweep's last. -/
abbrev cLast (i : grid0.Coords) : Prop :=
  (Scalar.cmpi .ne (Scalar.extui (Scalar.cmpi .eq (BitVec.ofNat 32 (i 1).val) 3#32)) 0#32) = 1#1
/-- The second sweep is running. -/
abbrev cP1 (i : grid0.Coords) : Prop := k0_cond4 i = 1#1

/-- The first sweep takes points 0 to 3. -/
theorem cP0_iff : ∀ t : Fin cfg0.N, cP0 (grid0.coords t) ↔ t.val < 4 :=
  (by decide +kernel : ∀ t : Fin grid0.N, cP0 (grid0.coords t) ↔ t.val < 4)
/-- Each sweep's first tile is a point divisible by four. -/
theorem cFirst_iff : ∀ t : Fin cfg0.N, cFirst (grid0.coords t) ↔ t.val % 4 = 0 :=
  (by decide +kernel : ∀ t : Fin grid0.N, cFirst (grid0.coords t) ↔ t.val % 4 = 0)
/-- Each sweep's last tile is a point three past a multiple of four. -/
theorem cLast_iff : ∀ t : Fin cfg0.N, cLast (grid0.coords t) ↔ t.val % 4 = 3 :=
  (by decide +kernel : ∀ t : Fin grid0.N, cLast (grid0.coords t) ↔ t.val % 4 = 3)
/-- The second sweep takes points 4 to 7. -/
theorem cP1_iff : ∀ t : Fin cfg0.N, cP1 (grid0.coords t) ↔ 4 ≤ t.val :=
  (by decide +kernel : ∀ t : Fin grid0.N, cP1 (grid0.coords t) ↔ 4 ≤ t.val)

/-! ## The result's window -/

/-- In the first sweep the result's window is idle. -/
theorem idle5 : ∀ t : Fin cfg0.N, t.val < 4 → cfg0.idle 5 (grid0.coords t) = true := by decide +kernel
/-- In the first sweep the result's block is not written back. -/
theorem noFlush5 : ∀ t : Fin cfg0.N, t.val < 4 → (cfg0.win 5).flush t = false := by decide +kernel
/-- In the second sweep the result's window is live. -/
theorem live5 : ∀ t : Fin cfg0.N, 4 ≤ t.val → cfg0.idle 5 (grid0.coords t) = false := by decide +kernel

/-! ## The memrefs the body is called with -/

/-- Window 0's staging memref at point `t` (the tokens). -/
abbrev st0 (t : Fin cfg0.N) : Memref sig .tc .vmem S1x512x8x256 .f32 := win0_0.stage (cfg0.slots t 0)
/-- Window 1's staging memref at point `t` (the dispatch weights). -/
abbrev st1 (t : Fin cfg0.N) : Memref sig .tc .vmem S1x512x8x256 .f32 := win0_1.stage (cfg0.slots t 1)
/-- Window 2's staging memref at point `t` (the combine weights). -/
abbrev st2 (t : Fin cfg0.N) : Memref sig .tc .vmem S1x512x8x256 .f32 := win0_2.stage (cfg0.slots t 2)
/-- Window 3's staging memref at point `t` (the experts' matrix). -/
abbrev st3 (t : Fin cfg0.N) : Memref sig .tc .vmem S192x2048 .f32 := win0_3.stage (cfg0.slots t 3)
/-- Window 4's staging memref at point `t` (the bias). -/
abbrev st4 (t : Fin cfg0.N) : Memref sig .tc .vmem S1x768 .f32 := win0_4.stage (cfg0.slots t 4)
/-- Window 5's staging memref at point `t` (the result). -/
abbrev st5 (t : Fin cfg0.N) : Memref sig .tc .vmem S512x768 .f32 := win0_5.stage (cfg0.slots t 5)

/-- The scratch that accumulates the dispatched tokens. -/
abbrev mX : Memref sig .tc .vmem S8x256x256 .f32 := Memref.whole cc0_scratch0
/-- The scratch that keeps the experts' results. -/
abbrev mY : Memref sig .tc .vmem S8x256x768 .bf16 := Memref.whole cc0_scratch1
/-- The scratch that keeps the experts' matrix, one slab per expert. -/
abbrev mW : Memref sig .tc .vmem S8x768x256 .bf16 := Memref.whole cc0_scratch2

/-- What the launch hands the region beside the windows: the three scratch buffers at any contents and the generator's
    register at some state. -/
theorem rest_eq (c : Dev nD) :
    (Pipeline.ΦA spec0 c : sProp 𝕄)
      = iprop(iprop((∃ d, owns (c : Thread nD τ) mX fullShare d) ∗ (∃ d, owns (c : Thread nD τ) mY fullShare d)
          ∗ (∃ d, owns (c : Thread nD τ) mW fullShare d)) ∗ (∃ r, prngReg c r)) := by
  unfold Pipeline.ΦA; rw [scopedRest0_eq]; simp only [mX, mY, mW, owns_whole]; try rfl

end Cert.KernelIdeal.Moe

end
-- ==== Proof.Ideal.RunA.lean ====
/- The body's run at the first tile of the first sweep. -/
module

public import proofs.«01_k».proof.Proof.Ideal.Base

@[expose] public section

set_option maxRecDepth 16384

noncomputable section

namespace Cert.KernelIdeal.Moe

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- At the first tile of the first sweep the body runs from whole buffers at any contents, and hands back every buffer as
    it was but two: the token accumulator with the stores of the list `L8` made into it (zeroed, then one slab added per
    expert) and the copy of the experts' matrix with the two slabs of `L10` stored. -/
def runA (c : Dev nD) (i : grid0.Coords)
    (arg2 : Memref sig .tc .vmem S1x512x8x256 .f32) (harg2 : arg2.IsWhole)
    (arg3 : Memref sig .tc .vmem S1x512x8x256 .f32) (harg3 : arg3.IsWhole)
    (arg4 : Memref sig .tc .vmem S1x512x8x256 .f32) (harg4 : arg4.IsWhole)
    (arg5 : Memref sig .tc .vmem S192x2048 .f32) (harg5 : arg5.IsWhole)
    (arg6 : Memref sig .tc .vmem S1x768 .f32) (harg6 : arg6.IsWhole)
    (arg7 : Memref sig .tc .vmem S512x768 .f32) (harg7 : arg7.IsWhole)
    (arg8 : Memref sig .tc .vmem S8x256x256 .f32) (harg8 : arg8.IsWhole)
    (arg9 : Memref sig .tc .vmem S8x256x768 .bf16) (harg9 : arg9.IsWhole)
    (arg10 : Memref sig .tc .vmem S8x768x256 .bf16) (harg10 : arg10.IsWhole)
    (hc0 : cP0 i) (hc1 : cFirst i) (hc2 : ¬cLast i) (hc3 : ¬cP1 i)
    (x0 : Vec F S1x512x8x256 .f32) (x1 : Vec F S1x512x8x256 .f32) (x2 : Vec F S1x512x8x256 .f32)
    (x3 : Vec F S192x2048 .f32) (x4 : Vec F S1x768 .f32) (xi : Vec F S512x768 .f32)
    (s8 : Vec F S8x256x256 .f32) (s9 : Vec F S8x256x768 .bf16) (s10 : Vec F S8x768x256 .bf16)
    : Σ' (L8 : List (View.Piece (Elt F) S8x256x256 .f32)), { L10 : List (View.Piece (Elt F) S8x768x256 .bf16) //
      ∀ (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare xi
            ∗ owns (c : Thread nD τ) arg8 fullShare s8
            ∗ owns (c : Thread nD τ) arg9 fullShare s9
            ∗ owns (c : Thread nD τ) arg10 fullShare s10
            ∗ (iprop(owns (c : Thread nD τ) arg2 fullShare x0
              ∗ owns (c : Thread nD τ) arg3 fullShare x1
              ∗ owns (c : Thread nD τ) arg4 fullShare x2
              ∗ owns (c : Thread nD τ) arg5 fullShare x3
              ∗ owns (c : Thread nD τ) arg6 fullShare x4
              ∗ owns (c : Thread nD τ) arg7 fullShare xi
              ∗ (arg8.view.loc (c : Thread nD τ) ↦[arg8.view.set]{fullShare} arg8.view.writes (Elt F) (harg8.unread s8) L8)
              ∗ owns (c : Thread nD τ) arg9 fullShare s9
              ∗ (arg10.view.loc (c : Thread nD τ) ↦[arg10.view.set]{fullShare} arg10.view.writes (Elt F) (harg10.unread s10) L10)) -∗ K ⟨⟩))
          ⊢ wp frame (wpE (defs₀ (F := F)) Variants.none c none) E
              (cc0__moe_body i arg2 harg2 arg3 harg3 arg4 harg4 arg5 harg5 arg6 harg6 arg7 harg7 arg8 harg8 arg9 harg9 arg10 harg10) K } := by
  refine ⟨?_, ?_, fun E K => ?run⟩
  case run =>
    simp only [cc0__moe_body_eq_skeleton]; unfold cc0__moe_body_skel
    simp only [k0_part4_eq_skeleton, k0_part5_eq_skeleton, k0_part6_eq_skeleton]
    unfold owns
    iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, Hk⟩
    obtain rfl := harg2.eq_unread e2
    obtain rfl := harg3.eq_unread e3
    obtain rfl := harg4.eq_unread e4
    obtain rfl := harg5.eq_unread e5
    obtain rfl := harg6.eq_unread e6
    obtain rfl := harg7.eq_unread e7
    obtain rfl := harg8.eq_unread e8
    obtain rfl := harg9.eq_unread e9
    obtain rfl := harg10.eq_unread e10
    sl_exec (disch := first | sl_exact hc0 | sl_exact hc1 | sl_exact hc2 | sl_exact hc3)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexact H8
    isplitl [H9]
    · iexists _; isplitr; · ipureintro; exact harg9.read_unread _
      iexact H9
    iexact H10

end Cert.KernelIdeal.Moe

end
-- ==== Proof.Ideal.RunB.lean ====
/- The body's run at a middle tile of the first sweep. -/
module

public import proofs.«01_k».proof.Proof.Ideal.RunA

@[expose] public section

set_option maxRecDepth 16384

noncomputable section

namespace Cert.KernelIdeal.Moe

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- At a middle tile of the first sweep the body adds one slab per expert to the token accumulator (the stores of `L8`)
    and stores two slabs of the experts' matrix (the stores of `L10`), leaving every other buffer as it was. -/
def runB (c : Dev nD) (i : grid0.Coords)
    (arg2 : Memref sig .tc .vmem S1x512x8x256 .f32) (harg2 : arg2.IsWhole)
    (arg3 : Memref sig .tc .vmem S1x512x8x256 .f32) (harg3 : arg3.IsWhole)
    (arg4 : Memref sig .tc .vmem S1x512x8x256 .f32) (harg4 : arg4.IsWhole)
    (arg5 : Memref sig .tc .vmem S192x2048 .f32) (harg5 : arg5.IsWhole)
    (arg6 : Memref sig .tc .vmem S1x768 .f32) (harg6 : arg6.IsWhole)
    (arg7 : Memref sig .tc .vmem S512x768 .f32) (harg7 : arg7.IsWhole)
    (arg8 : Memref sig .tc .vmem S8x256x256 .f32) (harg8 : arg8.IsWhole)
    (arg9 : Memref sig .tc .vmem S8x256x768 .bf16) (harg9 : arg9.IsWhole)
    (arg10 : Memref sig .tc .vmem S8x768x256 .bf16) (harg10 : arg10.IsWhole)
    (hc0 : cP0 i) (hc1 : ¬cFirst i) (hc2 : ¬cLast i) (hc3 : ¬cP1 i)
    (x0 : Vec F S1x512x8x256 .f32) (x1 : Vec F S1x512x8x256 .f32) (x2 : Vec F S1x512x8x256 .f32)
    (x3 : Vec F S192x2048 .f32) (x4 : Vec F S1x768 .f32) (xi : Vec F S512x768 .f32)
    (s8 : Vec F S8x256x256 .f32) (s9 : Vec F S8x256x768 .bf16) (s10 : Vec F S8x768x256 .bf16)
    : Σ' (L8 : List (View.Piece (Elt F) S8x256x256 .f32)), { L10 : List (View.Piece (Elt F) S8x768x256 .bf16) //
      ∀ (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare xi
            ∗ owns (c : Thread nD τ) arg8 fullShare s8
            ∗ owns (c : Thread nD τ) arg9 fullShare s9
            ∗ owns (c : Thread nD τ) arg10 fullShare s10
            ∗ (iprop(owns (c : Thread nD τ) arg2 fullShare x0
              ∗ owns (c : Thread nD τ) arg3 fullShare x1
              ∗ owns (c : Thread nD τ) arg4 fullShare x2
              ∗ owns (c : Thread nD τ) arg5 fullShare x3
              ∗ owns (c : Thread nD τ) arg6 fullShare x4
              ∗ owns (c : Thread nD τ) arg7 fullShare xi
              ∗ (arg8.view.loc (c : Thread nD τ) ↦[arg8.view.set]{fullShare} arg8.view.writes (Elt F) (harg8.unread s8) L8)
              ∗ owns (c : Thread nD τ) arg9 fullShare s9
              ∗ (arg10.view.loc (c : Thread nD τ) ↦[arg10.view.set]{fullShare} arg10.view.writes (Elt F) (harg10.unread s10) L10)) -∗ K ⟨⟩))
          ⊢ wp frame (wpE (defs₀ (F := F)) Variants.none c none) E
              (cc0__moe_body i arg2 harg2 arg3 harg3 arg4 harg4 arg5 harg5 arg6 harg6 arg7 harg7 arg8 harg8 arg9 harg9 arg10 harg10) K } := by
  refine ⟨?_, ?_, fun E K => ?run⟩
  case run =>
    simp only [cc0__moe_body_eq_skeleton]; unfold cc0__moe_body_skel
    simp only [k0_part4_eq_skeleton, k0_part5_eq_skeleton, k0_part6_eq_skeleton]
    unfold owns
    iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, Hk⟩
    obtain rfl := harg2.eq_unread e2
    obtain rfl := harg3.eq_unread e3
    obtain rfl := harg4.eq_unread e4
    obtain rfl := harg5.eq_unread e5
    obtain rfl := harg6.eq_unread e6
    obtain rfl := harg7.eq_unread e7
    obtain rfl := harg8.eq_unread e8
    obtain rfl := harg9.eq_unread e9
    obtain rfl := harg10.eq_unread e10
    sl_exec (disch := first | sl_exact hc0 | sl_exact hc1 | sl_exact hc2 | sl_exact hc3)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexact H8
    isplitl [H9]
    · iexists _; isplitr; · ipureintro; exact harg9.read_unread _
      iexact H9
    iexact H10

end Cert.KernelIdeal.Moe

end
-- ==== Proof.Ideal.RunC.lean ====
/- The body's run at the last tile of the first sweep. -/
module

public import proofs.«01_k».proof.Proof.Ideal.RunB

@[expose] public section

set_option maxRecDepth 16384

noncomputable section

namespace Cert.KernelIdeal.Moe

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- At the last tile of the first sweep the body adds one slab per expert to the token accumulator (the stores of `L8`),
    stores the last two slabs of the experts' matrix (`L10`) and then one slab of results per expert (`L9`), leaving every
    other buffer as it was. -/
def runC (c : Dev nD) (i : grid0.Coords)
    (arg2 : Memref sig .tc .vmem S1x512x8x256 .f32) (harg2 : arg2.IsWhole)
    (arg3 : Memref sig .tc .vmem S1x512x8x256 .f32) (harg3 : arg3.IsWhole)
    (arg4 : Memref sig .tc .vmem S1x512x8x256 .f32) (harg4 : arg4.IsWhole)
    (arg5 : Memref sig .tc .vmem S192x2048 .f32) (harg5 : arg5.IsWhole)
    (arg6 : Memref sig .tc .vmem S1x768 .f32) (harg6 : arg6.IsWhole)
    (arg7 : Memref sig .tc .vmem S512x768 .f32) (harg7 : arg7.IsWhole)
    (arg8 : Memref sig .tc .vmem S8x256x256 .f32) (harg8 : arg8.IsWhole)
    (arg9 : Memref sig .tc .vmem S8x256x768 .bf16) (harg9 : arg9.IsWhole)
    (arg10 : Memref sig .tc .vmem S8x768x256 .bf16) (harg10 : arg10.IsWhole)
    (hc0 : cP0 i) (hc1 : ¬cFirst i) (hc2 : cLast i) (hc3 : ¬cP1 i)
    (x0 : Vec F S1x512x8x256 .f32) (x1 : Vec F S1x512x8x256 .f32) (x2 : Vec F S1x512x8x256 .f32)
    (x3 : Vec F S192x2048 .f32) (x4 : Vec F S1x768 .f32) (xi : Vec F S512x768 .f32)
    (s8 : Vec F S8x256x256 .f32) (s9 : Vec F S8x256x768 .bf16) (s10 : Vec F S8x768x256 .bf16)
    : Σ' (L8 : List (View.Piece (Elt F) S8x256x256 .f32)), Σ' (L9 : List (View.Piece (Elt F) S8x256x768 .bf16)), { L10 : List (View.Piece (Elt F) S8x768x256 .bf16) //
      ∀ (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare xi
            ∗ owns (c : Thread nD τ) arg8 fullShare s8
            ∗ owns (c : Thread nD τ) arg9 fullShare s9
            ∗ owns (c : Thread nD τ) arg10 fullShare s10
            ∗ (iprop(owns (c : Thread nD τ) arg2 fullShare x0
              ∗ owns (c : Thread nD τ) arg3 fullShare x1
              ∗ owns (c : Thread nD τ) arg4 fullShare x2
              ∗ owns (c : Thread nD τ) arg5 fullShare x3
              ∗ owns (c : Thread nD τ) arg6 fullShare x4
              ∗ owns (c : Thread nD τ) arg7 fullShare xi
              ∗ (arg8.view.loc (c : Thread nD τ) ↦[arg8.view.set]{fullShare} arg8.view.writes (Elt F) (harg8.unread s8) L8)
              ∗ (arg9.view.loc (c : Thread nD τ) ↦[arg9.view.set]{fullShare} arg9.view.writes (Elt F) (harg9.unread s9) L9)
              ∗ (arg10.view.loc (c : Thread nD τ) ↦[arg10.view.set]{fullShare} arg10.view.writes (Elt F) (harg10.unread s10) L10)) -∗ K ⟨⟩))
          ⊢ wp frame (wpE (defs₀ (F := F)) Variants.none c none) E
              (cc0__moe_body i arg2 harg2 arg3 harg3 arg4 harg4 arg5 harg5 arg6 harg6 arg7 harg7 arg8 harg8 arg9 harg9 arg10 harg10) K } := by
  refine ⟨?_, ?_, ?_, fun E K => ?run⟩
  case run =>
    simp only [cc0__moe_body_eq_skeleton]; unfold cc0__moe_body_skel
    simp only [k0_part4_eq_skeleton, k0_part5_eq_skeleton, k0_part6_eq_skeleton, k0_part1_eq_skeleton, k0_part2_eq_skeleton, k0_part3_eq_skeleton]
    unfold owns
    iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, Hk⟩
    obtain rfl := harg2.eq_unread e2
    obtain rfl := harg3.eq_unread e3
    obtain rfl := harg4.eq_unread e4
    obtain rfl := harg5.eq_unread e5
    obtain rfl := harg6.eq_unread e6
    obtain rfl := harg7.eq_unread e7
    obtain rfl := harg8.eq_unread e8
    obtain rfl := harg9.eq_unread e9
    obtain rfl := harg10.eq_unread e10
    sl_exec (disch := first | sl_exact hc0 | sl_exact hc1 | sl_exact hc2 | sl_exact hc3)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexact H8
    isplitl [H9]
    · iexact H9
    iexact H10

end Cert.KernelIdeal.Moe

end
-- ==== Proof.Ideal.RunD.lean ====
/- The body's run at a tile of the second sweep. -/
module

public import proofs.«01_k».proof.Proof.Ideal.RunC

@[expose] public section

set_option maxRecDepth 16384

noncomputable section

namespace Cert.KernelIdeal.Moe

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- At a tile of the second sweep the body stores the tile's combined result (`L7`), leaving every other buffer as it was. -/
def runD (c : Dev nD) (i : grid0.Coords)
    (arg2 : Memref sig .tc .vmem S1x512x8x256 .f32) (harg2 : arg2.IsWhole)
    (arg3 : Memref sig .tc .vmem S1x512x8x256 .f32) (harg3 : arg3.IsWhole)
    (arg4 : Memref sig .tc .vmem S1x512x8x256 .f32) (harg4 : arg4.IsWhole)
    (arg5 : Memref sig .tc .vmem S192x2048 .f32) (harg5 : arg5.IsWhole)
    (arg6 : Memref sig .tc .vmem S1x768 .f32) (harg6 : arg6.IsWhole)
    (arg7 : Memref sig .tc .vmem S512x768 .f32) (harg7 : arg7.IsWhole)
    (arg8 : Memref sig .tc .vmem S8x256x256 .f32) (harg8 : arg8.IsWhole)
    (arg9 : Memref sig .tc .vmem S8x256x768 .bf16) (harg9 : arg9.IsWhole)
    (arg10 : Memref sig .tc .vmem S8x768x256 .bf16) (harg10 : arg10.IsWhole)
    (hc0 : ¬cP0 i) (hc3 : cP1 i)
    (x0 : Vec F S1x512x8x256 .f32) (x1 : Vec F S1x512x8x256 .f32) (x2 : Vec F S1x512x8x256 .f32)
    (x3 : Vec F S192x2048 .f32) (x4 : Vec F S1x768 .f32) (xi : Vec F S512x768 .f32)
    (s8 : Vec F S8x256x256 .f32) (s9 : Vec F S8x256x768 .bf16) (s10 : Vec F S8x768x256 .bf16)
    : { L7 : List (View.Piece (Elt F) S512x768 .f32) //
      ∀ (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare xi
            ∗ owns (c : Thread nD τ) arg8 fullShare s8
            ∗ owns (c : Thread nD τ) arg9 fullShare s9
            ∗ owns (c : Thread nD τ) arg10 fullShare s10
            ∗ (iprop(owns (c : Thread nD τ) arg2 fullShare x0
              ∗ owns (c : Thread nD τ) arg3 fullShare x1
              ∗ owns (c : Thread nD τ) arg4 fullShare x2
              ∗ owns (c : Thread nD τ) arg5 fullShare x3
              ∗ owns (c : Thread nD τ) arg6 fullShare x4
              ∗ (arg7.view.loc (c : Thread nD τ) ↦[arg7.view.set]{fullShare} arg7.view.writes (Elt F) (harg7.unread xi) L7)
              ∗ owns (c : Thread nD τ) arg8 fullShare s8
              ∗ owns (c : Thread nD τ) arg9 fullShare s9
              ∗ owns (c : Thread nD τ) arg10 fullShare s10) -∗ K ⟨⟩))
          ⊢ wp frame (wpE (defs₀ (F := F)) Variants.none c none) E
              (cc0__moe_body i arg2 harg2 arg3 harg3 arg4 harg4 arg5 harg5 arg6 harg6 arg7 harg7 arg8 harg8 arg9 harg9 arg10 harg10) K } := by
  refine ⟨?_, fun E K => ?run⟩
  case run =>
    simp only [cc0__moe_body_eq_skeleton]; unfold cc0__moe_body_skel
    simp only [k0_part7_eq_skeleton]
    unfold owns
    iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, Hk⟩
    obtain rfl := harg2.eq_unread e2
    obtain rfl := harg3.eq_unread e3
    obtain rfl := harg4.eq_unread e4
    obtain rfl := harg5.eq_unread e5
    obtain rfl := harg6.eq_unread e6
    obtain rfl := harg7.eq_unread e7
    obtain rfl := harg8.eq_unread e8
    obtain rfl := harg9.eq_unread e9
    obtain rfl := harg10.eq_unread e10
    sl_exec (disch := first | sl_exact hc0 | sl_exact hc3)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexact H7
    isplitl [H8]
    · iexists _; isplitr; · ipureintro; exact harg8.read_unread _
      iexact H8
    isplitl [H9]
    · iexists _; isplitr; · ipureintro; exact harg9.read_unread _
      iexact H9
    iexists _; isplitr; · ipureintro; exact harg10.read_unread _
    iexact H10

end Cert.KernelIdeal.Moe

end
-- ==== Proof.Ideal.Steps.lean ====
/- What the body's stores leave in each buffer, in closed form: the token accumulator takes one slab per expert, the copy of
   the experts' matrix two slabs per tile, the experts' results one slab per expert, and the result its combined tile. -/
module

public import proofs.«01_k».proof.Proof.Ideal.RunD
public import Idealize.ShloMosaic.Lib.Pipeline.ReadBack
public import Idealize.ShloMosaic.Lib.Pipeline.CanonAppend
public import Idealize.ShloMosaic.Lib.WholeRead
public import Idealize.ShloMosaic.Lib.WritesUnit
public import Idealize.ShloMosaic.Lib.Pointwise
public import Idealize.ShloMosaic.Lib.Pipeline.ValueKit

@[expose] public section

set_option maxRecDepth 16384

noncomputable section

namespace Cert.KernelIdeal.Moe

open Cert.KernelIdeal.Gen
open Idealize.ShloMosaic Idealize.ShloMosaic.TcCoe Idealize.ShloMosaic.Tactic

variable {F : FTy → Type} [FloatOps F]

/-! ## The slabs -/

/-- Expert `e`'s slab of the token accumulator. -/
abbrev rX (e : Fin 8) : Rect S8x256x256 := Rect.unit ![e.val, 0, 0] S1x256x256.size
  (by rintro ⟨_ | _ | _ | _, h⟩ <;> first | (simp; omega) | simp)
/-- Expert `e`'s slab of the experts' results. -/
abbrev rY (e : Fin 8) : Rect S8x256x768 := Rect.unit ![e.val, 0, 0] S1x256x768.size
  (by rintro ⟨_ | _ | _ | _, h⟩ <;> first | (simp; omega) | simp)
/-- Expert `e`'s slab of the experts' matrix. -/
abbrev rW (e : Fin 8) : Rect S8x768x256 := Rect.unit ![e.val, 0, 0] S1x768x256.size
  (by rintro ⟨_ | _ | _ | _, h⟩ <;> first | (simp; omega) | simp)

/-- An expert's slab of eight stacked blocks of 512 rows is a slice. -/
theorem slices_e (e : Fin 8) : Shape.Slices S8x512x256 ![e.val, 0, 0] S1x512x256 := by
  revert e; decide

/-! ## The token accumulator -/

/-- What one expert's slab of the accumulator becomes: the slab it was plus the product of the expert's dispatch weights
    (transposed) and the tokens. -/
def xRow (e : Fin 8) (v9 v13 : FVec F S8x512x256 .bf16) (old : Vec F S1x256x256 .f32) : FVec F S1x256x256 .f32 :=
  shapeCast S1x256x256
    (addf (shapeCast S256x256 old shapeCasts_S1x256x256_S256x256)
      (matmul dot_S512x256_S512x256_S256x256_0_0_1_1_n_n none
        (shapeCast S512x256 (extractStridedSlice S1x512x256 ![e.val, 0, 0] v13 (slices_e e)) shapeCasts_S1x512x256_S512x256)
        (shapeCast S512x256 (extractStridedSlice S1x512x256 ![e.val, 0, 0] v9 (slices_e e)) shapeCasts_S1x512x256_S512x256)
        (constant S256x256 .f32 0x00000000#32)))
    shapeCasts_S256x256_S1x256x256

/-- The accumulator after one tile, from the accumulator before it. -/
def xStep (v9 v13 : FVec F S8x512x256 .bf16) (s : Vec F S8x256x256 .f32) : Vec F S8x256x256 .f32 :=
  fun y => xRow (y 0) v9 v13 (View.ld s (rX (y 0))) (ix3 (0 : Fin 1) (y 1) (y 2))

/-- A slab's row sits in the expert's place. -/
theorem rX_emb (e : Fin 8) (x : S1x256x256.Idx) : (rX e).emb x = ix3 e (x 1) (x 2) := by
  funext a; match a with
  | ⟨0, _⟩ => refine Fin.ext ?_; show e.val + 1 * (x 0).val = e.val; have : (x 0).val < 1 := (x 0).isLt; omega
  | ⟨1, _⟩ => refine Fin.ext ?_; show 0 + 1 * (x 1).val = (x 1).val; omega
  | ⟨2, _⟩ => refine Fin.ext ?_; show 0 + 1 * (x 2).val = (x 2).val; omega

/-- The index of a slab's row, inside the slab. -/
theorem slabX_eq (x : S1x256x256.Idx) : (ix3 (0 : Fin 1) (x 1) (x 2) : S1x256x256.Idx) = x := by
  funext a; match a with
  | ⟨0, _⟩ => refine Fin.ext ?_; show 0 = (x 0).val; have : (x 0).val < 1 := (x 0).isLt; omega
  | ⟨1, _⟩ => rfl
  | ⟨2, _⟩ => rfl

/-- Expert `e`'s slab of the accumulator after one tile is `xRow e` of its slab before. -/
theorem xStep_emb (e : Fin 8) (v9 v13 : FVec F S8x512x256 .bf16) (s : Vec F S8x256x256 .f32) (x : S1x256x256.Idx) :
    xRow e v9 v13 (View.ld s (rX e)) x = xStep v9 v13 s ((rX e).emb x) := by
  rw [rX_emb]; show _ = xRow e v9 v13 (View.ld s (rX e)) (ix3 (0 : Fin 1) (x 1) (x 2))
  rw [slabX_eq]

/-! ## The experts' results -/

/-- The experts' results, from the accumulated tokens, the experts' matrix and the bias. -/
def yAll (s : Vec F S8x256x256 .f32) (w : Vec F S8x768x256 .bf16) (b : Vec F S1x768 .f32) : Vec F S8x256x768 .bf16 :=
  fun y => k0_pay6 (View.ld s (rX (y 0))) (View.ld w (rW (y 0))) b (ix3 (0 : Fin 1) (y 1) (y 2))

/-- A slab's row sits in the expert's place. -/
theorem rY_emb (e : Fin 8) (x : S1x256x768.Idx) : (rY e).emb x = ix3 e (x 1) (x 2) := by
  funext a; match a with
  | ⟨0, _⟩ => refine Fin.ext ?_; show e.val + 1 * (x 0).val = e.val; have : (x 0).val < 1 := (x 0).isLt; omega
  | ⟨1, _⟩ => refine Fin.ext ?_; show 0 + 1 * (x 1).val = (x 1).val; omega
  | ⟨2, _⟩ => refine Fin.ext ?_; show 0 + 1 * (x 2).val = (x 2).val; omega

/-- The index of a slab's row, inside the slab. -/
theorem slabY_eq (x : S1x256x768.Idx) : (ix3 (0 : Fin 1) (x 1) (x 2) : S1x256x768.Idx) = x := by
  funext a; match a with
  | ⟨0, _⟩ => refine Fin.ext ?_; show 0 = (x 0).val; have : (x 0).val < 1 := (x 0).isLt; omega
  | ⟨1, _⟩ => rfl
  | ⟨2, _⟩ => rfl

/-- Expert `e`'s slab of the results. -/
theorem yAll_emb (e : Fin 8) (s : Vec F S8x256x256 .f32) (w : Vec F S8x768x256 .bf16) (b : Vec F S1x768 .f32) (x : S1x256x768.Idx) :
    k0_pay6 (View.ld s (rX e)) (View.ld w (rW e)) b x = yAll s w b ((rY e).emb x) := by
  rw [rY_emb]; show _ = k0_pay6 (View.ld s (rX e)) (View.ld w (rW e)) b (ix3 (0 : Fin 1) (x 1) (x 2))
  rw [slabY_eq]

/-! ## The copy of the experts' matrix and the result -/

/-- The copy of the experts' matrix after tile `k`: the tile's two slabs stored at experts `2k` and `2k + 1`. -/
def wStep (k : Nat) (v17 : Vec F S192x2048 .f32) (s : Vec F S8x768x256 .bf16) : Vec F S8x768x256 .bf16 :=
  fun y => if (y 0).val = 2 * k then k0_pay21 v17 (ix3 (0 : Fin 1) (y 1) (y 2))
    else if (y 0).val = 2 * k + 1 then k0_pay22 v17 (ix3 (0 : Fin 1) (y 1) (y 2)) else s y

/-- A tile of the result, from the tile's combine weights and the experts' results. -/
def outRow (x2 : Vec F S1x512x8x256 .f32) (s : Vec F S8x256x768 .bf16) : Vec F S512x768 .f32 :=
  k0_pay5 (k0_pay33 x2) (k0_pay34 x2 (View.ld s (rY 0)) (View.ld s (rY 1)) (View.ld s (rY 2)) (View.ld s (rY 3)) (View.ld s (rY 4)))
    (View.ld s (rY 5)) (View.ld s (rY 6)) (View.ld s (rY 7))

/-! ## Reading the stores back -/

/-- A load of a rectangle of a whole buffer reads the contents there. -/
theorem load_unread {s : Shape} {e : EltTy} {m : Memref sig .tc .vmem s e} (h : m.IsWhole) (X : Vec F s e) (r : Rect s) :
    View.readAt (Elt F) m.view r.toLoadRect (h.unread X) = View.ld X r :=
  funext fun x => h.readAt_unread X r.toLoadRect x
/-- The offsets of a point's two slabs of the experts' matrix. -/
theorem off1_eq : ∀ t : Fin cfg0.N, k0_off1 (grid0.coords t) = ![2 * (t.val % 4), 0, 0] :=
  (by decide +kernel : ∀ t : Fin grid0.N, k0_off1 (grid0.coords t) = ![2 * (t.val % 4), 0, 0])
/-- The second slab's. -/
theorem off2_eq : ∀ t : Fin cfg0.N, k0_off2 (grid0.coords t) = ![2 * (t.val % 4) + 1, 0, 0] :=
  (by decide +kernel : ∀ t : Fin grid0.N, k0_off2 (grid0.coords t) = ![2 * (t.val % 4) + 1, 0, 0])

/-- The two slabs stored into the copy of the experts' matrix, read back: those two slabs, and the rest as it was. -/
theorem w_read {m : Memref sig .tc .vmem S8x768x256 .bf16} (h : m.IsWhole) (i : grid0.Coords) (k : Nat)
    (h1 : k0_off1 i = ![2 * k, 0, 0]) (h2 : k0_off2 i = ![2 * k + 1, 0, 0]) (inb1) (inb2) (v17 : Vec F S192x2048 .f32)
    (s : Vec F S8x768x256 .bf16) :
    m.view.read (Elt F) (m.view.writes (Elt F) (h.unread s)
        [⟨Rect.unit (k0_off2 i) S1x768x256.size inb2, k0_pay22 v17⟩, ⟨Rect.unit (k0_off1 i) S1x768x256.size inb1, k0_pay21 v17⟩])
      = wStep k v17 s := by
  funext y
  unfold wStep
  by_cases e2 : (y 0).val = 2 * k + 1
  · rw [if_neg (by omega), if_pos e2]
    refine View.read_writes_cons_unit_of_mem _ _ inb2 _ _ y (ix3 (0 : Fin 1) (y 1) (y 2)) h2 fun a => ?_
    match a with
    | ⟨0, _⟩ => exact e2
    | ⟨1, _⟩ => exact (Nat.zero_add _).symm
    | ⟨2, _⟩ => exact (Nat.zero_add _).symm
  · rw [if_neg e2, View.read_writes_cons_unit_of_not_mem _ _ inb2 _ _ y h2 (0 : Fin 3)
      (by show (y 0).val < 2 * k + 1 ∨ 2 * k + 1 + 1 ≤ (y 0).val; omega)]
    by_cases e1 : (y 0).val = 2 * k
    · rw [if_pos e1]
      refine View.read_writes_cons_unit_of_mem _ _ inb1 _ _ y (ix3 (0 : Fin 1) (y 1) (y 2)) h1 fun a => ?_
      match a with
      | ⟨0, _⟩ => exact e1
      | ⟨1, _⟩ => exact (Nat.zero_add _).symm
      | ⟨2, _⟩ => exact (Nat.zero_add _).symm
    · rw [if_neg e1, View.read_writes_cons_unit_of_not_mem _ _ inb1 _ _ y h1 (0 : Fin 3)
        (by show (y 0).val < 2 * k ∨ 2 * k + 1 ≤ (y 0).val; omega)]
      exact congrFun (h.read_unread s) y

set_option maxHeartbeats 1000000 in
/-- A middle tile's stores into the accumulator are one step of it, slab by slab. -/
theorem runB_canon (c : Dev nD) (i : grid0.Coords)
    (arg2 : Memref sig .tc .vmem S1x512x8x256 .f32) (harg2 : arg2.IsWhole)
    (arg3 : Memref sig .tc .vmem S1x512x8x256 .f32) (harg3 : arg3.IsWhole)
    (arg4 : Memref sig .tc .vmem S1x512x8x256 .f32) (harg4 : arg4.IsWhole)
    (arg5 : Memref sig .tc .vmem S192x2048 .f32) (harg5 : arg5.IsWhole)
    (arg6 : Memref sig .tc .vmem S1x768 .f32) (harg6 : arg6.IsWhole)
    (arg7 : Memref sig .tc .vmem S512x768 .f32) (harg7 : arg7.IsWhole)
    (arg8 : Memref sig .tc .vmem S8x256x256 .f32) (harg8 : arg8.IsWhole)
    (arg9 : Memref sig .tc .vmem S8x256x768 .bf16) (harg9 : arg9.IsWhole)
    (arg10 : Memref sig .tc .vmem S8x768x256 .bf16) (harg10 : arg10.IsWhole)
    (hc0 : cP0 i) (hc1 : ¬cFirst i) (hc2 : ¬cLast i) (hc3 : ¬cP1 i)
    (x0 : Vec F S1x512x8x256 .f32) (x1 : Vec F S1x512x8x256 .f32) (x2 : Vec F S1x512x8x256 .f32)
    (x3 : Vec F S192x2048 .f32) (x4 : Vec F S1x768 .f32) (xi : Vec F S512x768 .f32)
    (s8 : Vec F S8x256x256 .f32) (s9 : Vec F S8x256x768 .bf16) (s10 : Vec F S8x768x256 .bf16) :
    View.canon (runB c i arg2 harg2 arg3 harg3 arg4 harg4 arg5 harg5 arg6 harg6 arg7 harg7 arg8 harg8 arg9 harg9 arg10 harg10 hc0 hc1 hc2 hc3 x0 x1 x2 x3 x4 xi s8 s9 s10).1 = xStep (k0_pay17 x0) (k0_pay18 x1) s8 := by
  unfold runB; dsimp only
  refine funext fun y => View.canon_apply_of_pieces _ _ (View.PiecesOf.mem ?_) y
    (View.cover_of_tiledL (Val := Elt F) (s := S8x256x256) _ S1x256x256.size (by sl_kernel_rfl) y)
  sl_unfold_run_names
  simp (disch := decide) only [load_unread, View.ld_unit_lit']
  exact ⟨xStep_emb 7 _ _ s8, xStep_emb 6 _ _ s8, xStep_emb 5 _ _ s8, xStep_emb 4 _ _ s8, xStep_emb 3 _ _ s8, xStep_emb 2 _ _ s8,
    xStep_emb 1 _ _ s8, xStep_emb 0 _ _ s8, trivial⟩
/-- A middle tile of the first sweep leaves the accumulator one step on. -/
theorem runB_x (c : Dev nD) (i : grid0.Coords)
    (arg2 : Memref sig .tc .vmem S1x512x8x256 .f32) (harg2 : arg2.IsWhole)
    (arg3 : Memref sig .tc .vmem S1x512x8x256 .f32) (harg3 : arg3.IsWhole)
    (arg4 : Memref sig .tc .vmem S1x512x8x256 .f32) (harg4 : arg4.IsWhole)
    (arg5 : Memref sig .tc .vmem S192x2048 .f32) (harg5 : arg5.IsWhole)
    (arg6 : Memref sig .tc .vmem S1x768 .f32) (harg6 : arg6.IsWhole)
    (arg7 : Memref sig .tc .vmem S512x768 .f32) (harg7 : arg7.IsWhole)
    (arg8 : Memref sig .tc .vmem S8x256x256 .f32) (harg8 : arg8.IsWhole)
    (arg9 : Memref sig .tc .vmem S8x256x768 .bf16) (harg9 : arg9.IsWhole)
    (arg10 : Memref sig .tc .vmem S8x768x256 .bf16) (harg10 : arg10.IsWhole)
    (hc0 : cP0 i) (hc1 : ¬cFirst i) (hc2 : ¬cLast i) (hc3 : ¬cP1 i)
    (x0 : Vec F S1x512x8x256 .f32) (x1 : Vec F S1x512x8x256 .f32) (x2 : Vec F S1x512x8x256 .f32)
    (x3 : Vec F S192x2048 .f32) (x4 : Vec F S1x768 .f32) (xi : Vec F S512x768 .f32)
    (s8 : Vec F S8x256x256 .f32) (s9 : Vec F S8x256x768 .bf16) (s10 : Vec F S8x768x256 .bf16) :
    arg8.view.read (Elt F) (arg8.view.writes (Elt F) (harg8.unread s8)
        (runB c i arg2 harg2 arg3 harg3 arg4 harg4 arg5 harg5 arg6 harg6 arg7 harg7 arg8 harg8 arg9 harg9 arg10 harg10 hc0 hc1 hc2 hc3 x0 x1 x2 x3 x4 xi s8 s9 s10).1)
      = xStep (k0_pay17 x0) (k0_pay18 x1) s8 :=
  (View.read_writes_eq_canon (Val := Elt F) _ _ _ (by unfold runB; dsimp only; exact View.cover_of_tiledL (Val := Elt F) (s := S8x256x256) _ S1x256x256.size (by sl_kernel_rfl))).trans
    (runB_canon c i arg2 harg2 arg3 harg3 arg4 harg4 arg5 harg5 arg6 harg6 arg7 harg7 arg8 harg8 arg9 harg9 arg10 harg10 hc0 hc1 hc2 hc3 x0 x1 x2 x3 x4 xi s8 s9 s10)

set_option maxHeartbeats 1000000 in
/-- The last tile's stores into the accumulator are one step of it, slab by slab. -/
theorem runC_canon (c : Dev nD) (i : grid0.Coords)
    (arg2 : Memref sig .tc .vmem S1x512x8x256 .f32) (harg2 : arg2.IsWhole)
    (arg3 : Memref sig .tc .vmem S1x512x8x256 .f32) (harg3 : arg3.IsWhole)
    (arg4 : Memref sig .tc .vmem S1x512x8x256 .f32) (harg4 : arg4.IsWhole)
    (arg5 : Memref sig .tc .vmem S192x2048 .f32) (harg5 : arg5.IsWhole)
    (arg6 : Memref sig .tc .vmem S1x768 .f32) (harg6 : arg6.IsWhole)
    (arg7 : Memref sig .tc .vmem S512x768 .f32) (harg7 : arg7.IsWhole)
    (arg8 : Memref sig .tc .vmem S8x256x256 .f32) (harg8 : arg8.IsWhole)
    (arg9 : Memref sig .tc .vmem S8x256x768 .bf16) (harg9 : arg9.IsWhole)
    (arg10 : Memref sig .tc .vmem S8x768x256 .bf16) (harg10 : arg10.IsWhole)
    (hc0 : cP0 i) (hc1 : ¬cFirst i) (hc2 : cLast i) (hc3 : ¬cP1 i)
    (x0 : Vec F S1x512x8x256 .f32) (x1 : Vec F S1x512x8x256 .f32) (x2 : Vec F S1x512x8x256 .f32)
    (x3 : Vec F S192x2048 .f32) (x4 : Vec F S1x768 .f32) (xi : Vec F S512x768 .f32)
    (s8 : Vec F S8x256x256 .f32) (s9 : Vec F S8x256x768 .bf16) (s10 : Vec F S8x768x256 .bf16) :
    View.canon (runC c i arg2 harg2 arg3 harg3 arg4 harg4 arg5 harg5 arg6 harg6 arg7 harg7 arg8 harg8 arg9 harg9 arg10 harg10 hc0 hc1 hc2 hc3 x0 x1 x2 x3 x4 xi s8 s9 s10).1 = xStep (k0_pay17 x0) (k0_pay18 x1) s8 := by
  unfold runC; dsimp only
  refine funext fun y => View.canon_apply_of_pieces _ _ (View.PiecesOf.mem ?_) y
    (View.cover_of_tiledL (Val := Elt F) (s := S8x256x256) _ S1x256x256.size (by sl_kernel_rfl) y)
  sl_unfold_run_names
  simp (disch := decide) only [load_unread, View.ld_unit_lit']
  exact ⟨xStep_emb 7 _ _ s8, xStep_emb 6 _ _ s8, xStep_emb 5 _ _ s8, xStep_emb 4 _ _ s8, xStep_emb 3 _ _ s8, xStep_emb 2 _ _ s8,
    xStep_emb 1 _ _ s8, xStep_emb 0 _ _ s8, trivial⟩
/-- The last tile of the first sweep leaves the accumulator one step on. -/
theorem runC_x (c : Dev nD) (i : grid0.Coords)
    (arg2 : Memref sig .tc .vmem S1x512x8x256 .f32) (harg2 : arg2.IsWhole)
    (arg3 : Memref sig .tc .vmem S1x512x8x256 .f32) (harg3 : arg3.IsWhole)
    (arg4 : Memref sig .tc .vmem S1x512x8x256 .f32) (harg4 : arg4.IsWhole)
    (arg5 : Memref sig .tc .vmem S192x2048 .f32) (harg5 : arg5.IsWhole)
    (arg6 : Memref sig .tc .vmem S1x768 .f32) (harg6 : arg6.IsWhole)
    (arg7 : Memref sig .tc .vmem S512x768 .f32) (harg7 : arg7.IsWhole)
    (arg8 : Memref sig .tc .vmem S8x256x256 .f32) (harg8 : arg8.IsWhole)
    (arg9 : Memref sig .tc .vmem S8x256x768 .bf16) (harg9 : arg9.IsWhole)
    (arg10 : Memref sig .tc .vmem S8x768x256 .bf16) (harg10 : arg10.IsWhole)
    (hc0 : cP0 i) (hc1 : ¬cFirst i) (hc2 : cLast i) (hc3 : ¬cP1 i)
    (x0 : Vec F S1x512x8x256 .f32) (x1 : Vec F S1x512x8x256 .f32) (x2 : Vec F S1x512x8x256 .f32)
    (x3 : Vec F S192x2048 .f32) (x4 : Vec F S1x768 .f32) (xi : Vec F S512x768 .f32)
    (s8 : Vec F S8x256x256 .f32) (s9 : Vec F S8x256x768 .bf16) (s10 : Vec F S8x768x256 .bf16) :
    arg8.view.read (Elt F) (arg8.view.writes (Elt F) (harg8.unread s8)
        (runC c i arg2 harg2 arg3 harg3 arg4 harg4 arg5 harg5 arg6 harg6 arg7 harg7 arg8 harg8 arg9 harg9 arg10 harg10 hc0 hc1 hc2 hc3 x0 x1 x2 x3 x4 xi s8 s9 s10).1)
      = xStep (k0_pay17 x0) (k0_pay18 x1) s8 :=
  (View.read_writes_eq_canon (Val := Elt F) _ _ _ (by unfold runC; dsimp only; exact View.cover_of_tiledL (Val := Elt F) (s := S8x256x256) _ S1x256x256.size (by sl_kernel_rfl))).trans
    (runC_canon c i arg2 harg2 arg3 harg3 arg4 harg4 arg5 harg5 arg6 harg6 arg7 harg7 arg8 harg8 arg9 harg9 arg10 harg10 hc0 hc1 hc2 hc3 x0 x1 x2 x3 x4 xi s8 s9 s10)

/-- Equal tokens, weights and old slab give an equal new slab. -/
theorem xRow_congr (e : Fin 8) {a a' b b' : FVec F S8x512x256 .bf16} {d d' : Vec F S1x256x256 .f32} (ha : a = a') (hb : b = b')
    (hd : d = d') (x : S1x256x256.Idx) : xRow e a b d x = xRow e a' b' d' x := by rw [ha, hb, hd]

set_option maxHeartbeats 1000000 in
/-- The first tile's stores into the accumulator are one step of it from the zeros stored first. -/
theorem runA_x (c : Dev nD) (i : grid0.Coords)
    (arg2 : Memref sig .tc .vmem S1x512x8x256 .f32) (harg2 : arg2.IsWhole)
    (arg3 : Memref sig .tc .vmem S1x512x8x256 .f32) (harg3 : arg3.IsWhole)
    (arg4 : Memref sig .tc .vmem S1x512x8x256 .f32) (harg4 : arg4.IsWhole)
    (arg5 : Memref sig .tc .vmem S192x2048 .f32) (harg5 : arg5.IsWhole)
    (arg6 : Memref sig .tc .vmem S1x768 .f32) (harg6 : arg6.IsWhole)
    (arg7 : Memref sig .tc .vmem S512x768 .f32) (harg7 : arg7.IsWhole)
    (arg8 : Memref sig .tc .vmem S8x256x256 .f32) (harg8 : arg8.IsWhole)
    (arg9 : Memref sig .tc .vmem S8x256x768 .bf16) (harg9 : arg9.IsWhole)
    (arg10 : Memref sig .tc .vmem S8x768x256 .bf16) (harg10 : arg10.IsWhole)
    (hc0 : cP0 i) (hc1 : cFirst i) (hc2 : ¬cLast i) (hc3 : ¬cP1 i)
    (x0 : Vec F S1x512x8x256 .f32) (x1 : Vec F S1x512x8x256 .f32) (x2 : Vec F S1x512x8x256 .f32)
    (x3 : Vec F S192x2048 .f32) (x4 : Vec F S1x768 .f32) (xi : Vec F S512x768 .f32)
    (s8 : Vec F S8x256x256 .f32) (s9 : Vec F S8x256x768 .bf16) (s10 : Vec F S8x768x256 .bf16) :
    arg8.view.read (Elt F) (arg8.view.writes (Elt F) (harg8.unread s8)
        (runA c i arg2 harg2 arg3 harg3 arg4 harg4 arg5 harg5 arg6 harg6 arg7 harg7 arg8 harg8 arg9 harg9 arg10 harg10 hc0 hc1 hc2 hc3 x0 x1 x2 x3 x4 xi s8 s9 s10).1)
      = xStep (k0_pay17 x0) (k0_pay18 x1) k0_pay19 := by
  have h0 : ∀ inb, k0_pay17 (View.readAt (Elt F) arg2.view (Rect.unit ![0, 0, 0, 0] S1x512x8x256.size inb).toLoadRect (harg2.unread x0)) = k0_pay17 x0 := fun inb => by
    rw [load_unread]; exact congrArg _ (View.ld_unit_lit' inb x0 (by decide))
  have h1 : ∀ inb, k0_pay18 (View.readAt (Elt F) arg3.view (Rect.unit ![0, 0, 0, 0] S1x512x8x256.size inb).toLoadRect (harg3.unread x1)) = k0_pay18 x1 := fun inb => by
    rw [load_unread]; exact congrArg _ (View.ld_unit_lit' inb x1 (by decide))
  refine (View.read_writes_eq_canon (Val := Elt F) _ _ _ (by unfold runA; dsimp only; exact View.cover_of_wholeMem _ (by sl_whole_mem))).trans (funext fun y => ?_)
  refine View.canon_append_of_piecesOf (xStep (k0_pay17 x0) (k0_pay18 x1) k0_pay19) runA.sl.H8_1
    [⟨rX 7, _⟩, ⟨rX 6, _⟩, ⟨rX 5, _⟩, ⟨rX 4, _⟩, ⟨rX 3, _⟩, ⟨rX 2, _⟩, ⟨rX 1, _⟩, ⟨rX 0, _⟩] ?_ y
    (View.cover_of_tiledL (Val := Elt F) (s := S8x256x256) _ S1x256x256.size (by sl_kernel_rfl) y)
  refine ⟨fun x => ?_, fun x => ?_, fun x => ?_, fun x => ?_, fun x => ?_, fun x => ?_, fun x => ?_, fun x => ?_, trivial⟩
  · refine (xRow_congr 7 ?_ ?_ ?_ x).trans (xStep_emb 7 (k0_pay17 x0) (k0_pay18 x1) k0_pay19 x)
    · exact h0 _
    · exact h1 _
    · iterate 7 refine (View.readCov_skip _ _ _ _ _ (by decide)).trans ?_
      exact View.readCov_fill _ _ _ _ _ (by decide)
  · refine (xRow_congr 6 ?_ ?_ ?_ x).trans (xStep_emb 6 (k0_pay17 x0) (k0_pay18 x1) k0_pay19 x)
    · exact h0 _
    · exact h1 _
    · iterate 6 refine (View.readCov_skip _ _ _ _ _ (by decide)).trans ?_
      exact View.readCov_fill _ _ _ _ _ (by decide)
  · refine (xRow_congr 5 ?_ ?_ ?_ x).trans (xStep_emb 5 (k0_pay17 x0) (k0_pay18 x1) k0_pay19 x)
    · exact h0 _
    · exact h1 _
    · iterate 5 refine (View.readCov_skip _ _ _ _ _ (by decide)).trans ?_
      exact View.readCov_fill _ _ _ _ _ (by decide)
  · refine (xRow_congr 4 ?_ ?_ ?_ x).trans (xStep_emb 4 (k0_pay17 x0) (k0_pay18 x1) k0_pay19 x)
    · exact h0 _
    · exact h1 _
    · iterate 4 refine (View.readCov_skip _ _ _ _ _ (by decide)).trans ?_
      exact View.readCov_fill _ _ _ _ _ (by decide)
  · refine (xRow_congr 3 ?_ ?_ ?_ x).trans (xStep_emb 3 (k0_pay17 x0) (k0_pay18 x1) k0_pay19 x)
    · exact h0 _
    · exact h1 _
    · iterate 3 refine (View.readCov_skip _ _ _ _ _ (by decide)).trans ?_
      exact View.readCov_fill _ _ _ _ _ (by decide)
  · refine (xRow_congr 2 ?_ ?_ ?_ x).trans (xStep_emb 2 (k0_pay17 x0) (k0_pay18 x1) k0_pay19 x)
    · exact h0 _
    · exact h1 _
    · iterate 2 refine (View.readCov_skip _ _ _ _ _ (by decide)).trans ?_
      exact View.readCov_fill _ _ _ _ _ (by decide)
  · refine (xRow_congr 1 ?_ ?_ ?_ x).trans (xStep_emb 1 (k0_pay17 x0) (k0_pay18 x1) k0_pay19 x)
    · exact h0 _
    · exact h1 _
    · iterate 1 refine (View.readCov_skip _ _ _ _ _ (by decide)).trans ?_
      exact View.readCov_fill _ _ _ _ _ (by decide)
  · sl_unfold_run_names
    simp (disch := decide) only [load_unread, View.ld_unit_lit', View.readCov_fill]
    exact xStep_emb 0 (k0_pay17 x0) (k0_pay18 x1) k0_pay19 x

/-- The first tile of the first sweep stores its two slabs of the experts' matrix. -/
theorem runA_w (c : Dev nD) (i : grid0.Coords)
    (arg2 : Memref sig .tc .vmem S1x512x8x256 .f32) (harg2 : arg2.IsWhole)
    (arg3 : Memref sig .tc .vmem S1x512x8x256 .f32) (harg3 : arg3.IsWhole)
    (arg4 : Memref sig .tc .vmem S1x512x8x256 .f32) (harg4 : arg4.IsWhole)
    (arg5 : Memref sig .tc .vmem S192x2048 .f32) (harg5 : arg5.IsWhole)
    (arg6 : Memref sig .tc .vmem S1x768 .f32) (harg6 : arg6.IsWhole)
    (arg7 : Memref sig .tc .vmem S512x768 .f32) (harg7 : arg7.IsWhole)
    (arg8 : Memref sig .tc .vmem S8x256x256 .f32) (harg8 : arg8.IsWhole)
    (arg9 : Memref sig .tc .vmem S8x256x768 .bf16) (harg9 : arg9.IsWhole)
    (arg10 : Memref sig .tc .vmem S8x768x256 .bf16) (harg10 : arg10.IsWhole)
    (hc0 : cP0 i) (hc1 : cFirst i) (hc2 : ¬cLast i) (hc3 : ¬cP1 i)
    (x0 : Vec F S1x512x8x256 .f32) (x1 : Vec F S1x512x8x256 .f32) (x2 : Vec F S1x512x8x256 .f32)
    (x3 : Vec F S192x2048 .f32) (x4 : Vec F S1x768 .f32) (xi : Vec F S512x768 .f32)
    (s8 : Vec F S8x256x256 .f32) (s9 : Vec F S8x256x768 .bf16) (s10 : Vec F S8x768x256 .bf16) (k : Nat) (h1 : k0_off1 i = ![2 * k, 0, 0]) (h2 : k0_off2 i = ![2 * k + 1, 0, 0]) :
    arg10.view.read (Elt F) (arg10.view.writes (Elt F) (harg10.unread s10)
        (runA c i arg2 harg2 arg3 harg3 arg4 harg4 arg5 harg5 arg6 harg6 arg7 harg7 arg8 harg8 arg9 harg9 arg10 harg10 hc0 hc1 hc2 hc3 x0 x1 x2 x3 x4 xi s8 s9 s10).2.1)
      = wStep k x3 s10 := by
  unfold runA; dsimp only
  sl_unfold_run_names
  simp (disch := decide) only [load_unread, View.ld_unit_lit']
  exact w_read harg10 i k h1 h2 _ _ x3 s10

/-- A middle tile of the first sweep stores its two slabs of the experts' matrix. -/
theorem runB_w (c : Dev nD) (i : grid0.Coords)
    (arg2 : Memref sig .tc .vmem S1x512x8x256 .f32) (harg2 : arg2.IsWhole)
    (arg3 : Memref sig .tc .vmem S1x512x8x256 .f32) (harg3 : arg3.IsWhole)
    (arg4 : Memref sig .tc .vmem S1x512x8x256 .f32) (harg4 : arg4.IsWhole)
    (arg5 : Memref sig .tc .vmem S192x2048 .f32) (harg5 : arg5.IsWhole)
    (arg6 : Memref sig .tc .vmem S1x768 .f32) (harg6 : arg6.IsWhole)
    (arg7 : Memref sig .tc .vmem S512x768 .f32) (harg7 : arg7.IsWhole)
    (arg8 : Memref sig .tc .vmem S8x256x256 .f32) (harg8 : arg8.IsWhole)
    (arg9 : Memref sig .tc .vmem S8x256x768 .bf16) (harg9 : arg9.IsWhole)
    (arg10 : Memref sig .tc .vmem S8x768x256 .bf16) (harg10 : arg10.IsWhole)
    (hc0 : cP0 i) (hc1 : ¬cFirst i) (hc2 : ¬cLast i) (hc3 : ¬cP1 i)
    (x0 : Vec F S1x512x8x256 .f32) (x1 : Vec F S1x512x8x256 .f32) (x2 : Vec F S1x512x8x256 .f32)
    (x3 : Vec F S192x2048 .f32) (x4 : Vec F S1x768 .f32) (xi : Vec F S512x768 .f32)
    (s8 : Vec F S8x256x256 .f32) (s9 : Vec F S8x256x768 .bf16) (s10 : Vec F S8x768x256 .bf16) (k : Nat) (h1 : k0_off1 i = ![2 * k, 0, 0]) (h2 : k0_off2 i = ![2 * k + 1, 0, 0]) :
    arg10.view.read (Elt F) (arg10.view.writes (Elt F) (harg10.unread s10)
        (runB c i arg2 harg2 arg3 harg3 arg4 harg4 arg5 harg5 arg6 harg6 arg7 harg7 arg8 harg8 arg9 harg9 arg10 harg10 hc0 hc1 hc2 hc3 x0 x1 x2 x3 x4 xi s8 s9 s10).2.1)
      = wStep k x3 s10 := by
  unfold runB; dsimp only
  sl_unfold_run_names
  simp (disch := decide) only [load_unread, View.ld_unit_lit']
  exact w_read harg10 i k h1 h2 _ _ x3 s10

/-- The last tile of the first sweep stores its two slabs of the experts' matrix. -/
theorem runC_w (c : Dev nD) (i : grid0.Coords)
    (arg2 : Memref sig .tc .vmem S1x512x8x256 .f32) (harg2 : arg2.IsWhole)
    (arg3 : Memref sig .tc .vmem S1x512x8x256 .f32) (harg3 : arg3.IsWhole)
    (arg4 : Memref sig .tc .vmem S1x512x8x256 .f32) (harg4 : arg4.IsWhole)
    (arg5 : Memref sig .tc .vmem S192x2048 .f32) (harg5 : arg5.IsWhole)
    (arg6 : Memref sig .tc .vmem S1x768 .f32) (harg6 : arg6.IsWhole)
    (arg7 : Memref sig .tc .vmem S512x768 .f32) (harg7 : arg7.IsWhole)
    (arg8 : Memref sig .tc .vmem S8x256x256 .f32) (harg8 : arg8.IsWhole)
    (arg9 : Memref sig .tc .vmem S8x256x768 .bf16) (harg9 : arg9.IsWhole)
    (arg10 : Memref sig .tc .vmem S8x768x256 .bf16) (harg10 : arg10.IsWhole)
    (hc0 : cP0 i) (hc1 : ¬cFirst i) (hc2 : cLast i) (hc3 : ¬cP1 i)
    (x0 : Vec F S1x512x8x256 .f32) (x1 : Vec F S1x512x8x256 .f32) (x2 : Vec F S1x512x8x256 .f32)
    (x3 : Vec F S192x2048 .f32) (x4 : Vec F S1x768 .f32) (xi : Vec F S512x768 .f32)
    (s8 : Vec F S8x256x256 .f32) (s9 : Vec F S8x256x768 .bf16) (s10 : Vec F S8x768x256 .bf16) (k : Nat) (h1 : k0_off1 i = ![2 * k, 0, 0]) (h2 : k0_off2 i = ![2 * k + 1, 0, 0]) :
    arg10.view.read (Elt F) (arg10.view.writes (Elt F) (harg10.unread s10)
        (runC c i arg2 harg2 arg3 harg3 arg4 harg4 arg5 harg5 arg6 harg6 arg7 harg7 arg8 harg8 arg9 harg9 arg10 harg10 hc0 hc1 hc2 hc3 x0 x1 x2 x3 x4 xi s8 s9 s10).2.2.1)
      = wStep k x3 s10 := by
  unfold runC; dsimp only
  sl_unfold_run_names
  simp (disch := decide) only [load_unread, View.ld_unit_lit']
  exact w_read harg10 i k h1 h2 _ _ x3 s10

/-- Equal slabs and bias give equal results. -/
theorem pay6_congr {a a' : Vec F S1x256x256 .f32} {b b' : Vec F S1x768x256 .bf16} {d d' : Vec F S1x768 .f32} (ha : a = a') (hb : b = b')
    (hd : d = d') (x : S1x256x768.Idx) : k0_pay6 a b d x = k0_pay6 a' b' d' x := by rw [ha, hb, hd]

set_option maxHeartbeats 1000000 in
/-- The last tile of the first sweep leaves the experts' results, from the accumulator and the matrix it has just completed. -/
theorem runC_y (c : Dev nD) (i : grid0.Coords)
    (arg2 : Memref sig .tc .vmem S1x512x8x256 .f32) (harg2 : arg2.IsWhole)
    (arg3 : Memref sig .tc .vmem S1x512x8x256 .f32) (harg3 : arg3.IsWhole)
    (arg4 : Memref sig .tc .vmem S1x512x8x256 .f32) (harg4 : arg4.IsWhole)
    (arg5 : Memref sig .tc .vmem S192x2048 .f32) (harg5 : arg5.IsWhole)
    (arg6 : Memref sig .tc .vmem S1x768 .f32) (harg6 : arg6.IsWhole)
    (arg7 : Memref sig .tc .vmem S512x768 .f32) (harg7 : arg7.IsWhole)
    (arg8 : Memref sig .tc .vmem S8x256x256 .f32) (harg8 : arg8.IsWhole)
    (arg9 : Memref sig .tc .vmem S8x256x768 .bf16) (harg9 : arg9.IsWhole)
    (arg10 : Memref sig .tc .vmem S8x768x256 .bf16) (harg10 : arg10.IsWhole)
    (hc0 : cP0 i) (hc1 : ¬cFirst i) (hc2 : cLast i) (hc3 : ¬cP1 i)
    (x0 : Vec F S1x512x8x256 .f32) (x1 : Vec F S1x512x8x256 .f32) (x2 : Vec F S1x512x8x256 .f32)
    (x3 : Vec F S192x2048 .f32) (x4 : Vec F S1x768 .f32) (xi : Vec F S512x768 .f32)
    (s8 : Vec F S8x256x256 .f32) (s9 : Vec F S8x256x768 .bf16) (s10 : Vec F S8x768x256 .bf16) (k : Nat) (h1 : k0_off1 i = ![2 * k, 0, 0]) (h2 : k0_off2 i = ![2 * k + 1, 0, 0]) :
    arg9.view.read (Elt F) (arg9.view.writes (Elt F) (harg9.unread s9)
        (runC c i arg2 harg2 arg3 harg3 arg4 harg4 arg5 harg5 arg6 harg6 arg7 harg7 arg8 harg8 arg9 harg9 arg10 harg10 hc0 hc1 hc2 hc3 x0 x1 x2 x3 x4 xi s8 s9 s10).2.1)
      = yAll (xStep (k0_pay17 x0) (k0_pay18 x1) s8) (wStep k x3 s10) x4 := by
  have hX : ∀ e : Fin 8, View.readCov arg8.view (runC c i arg2 harg2 arg3 harg3 arg4 harg4 arg5 harg5 arg6 harg6 arg7 harg7 arg8 harg8 arg9 harg9 arg10 harg10 hc0 hc1 hc2 hc3 x0 x1 x2 x3 x4 xi s8 s9 s10).1 (rX e).toLoadRect
      = View.ld (xStep (k0_pay17 x0) (k0_pay18 x1) s8) (rX e) := fun e => by
    rw [View.readCov_eq_canon', runC_canon]
  have hW : ∀ e : Fin 8, View.readAt (Elt F) arg10.view (rW e).toLoadRect
        (arg10.view.writes (Elt F) (harg10.unread s10) (runC c i arg2 harg2 arg3 harg3 arg4 harg4 arg5 harg5 arg6 harg6 arg7 harg7 arg8 harg8 arg9 harg9 arg10 harg10 hc0 hc1 hc2 hc3 x0 x1 x2 x3 x4 xi s8 s9 s10).2.2.1)
      = View.ld (wStep k x3 s10) (rW e) := fun e =>
    congrArg (fun X => View.ld X (rW e)) (runC_w c i arg2 harg2 arg3 harg3 arg4 harg4 arg5 harg5 arg6 harg6 arg7 harg7 arg8 harg8 arg9 harg9 arg10 harg10 hc0 hc1 hc2 hc3 x0 x1 x2 x3 x4 xi s8 s9 s10 k h1 h2)
  have hb : ∀ inb, View.readAt (Elt F) arg6.view (Rect.unit ![0, 0] S1x768.size inb).toLoadRect (harg6.unread x4) = x4 := fun inb => by
    rw [load_unread]; exact View.ld_unit_lit' inb x4 (by decide)
  refine (View.read_writes_eq_canon (Val := Elt F) _ _ _ (by unfold runC; dsimp only; exact View.cover_of_tiledL (Val := Elt F) (s := S8x256x768) _ S1x256x768.size (by sl_kernel_rfl))).trans
    (funext fun y => View.canon_apply_of_pieces _ _ (View.PiecesOf.mem ?_) y
      (by unfold runC; dsimp only; exact View.cover_of_tiledL (Val := Elt F) (s := S8x256x768) _ S1x256x768.size (by sl_kernel_rfl) y))
  exact ⟨fun x => (pay6_congr (hX 7) (hW 7) (hb _) x).trans (yAll_emb 7 _ _ _ x), fun x => (pay6_congr (hX 6) (hW 6) (hb _) x).trans (yAll_emb 6 _ _ _ x),
    fun x => (pay6_congr (hX 5) (hW 5) (hb _) x).trans (yAll_emb 5 _ _ _ x), fun x => (pay6_congr (hX 4) (hW 4) (hb _) x).trans (yAll_emb 4 _ _ _ x),
    fun x => (pay6_congr (hX 3) (hW 3) (hb _) x).trans (yAll_emb 3 _ _ _ x), fun x => (pay6_congr (hX 2) (hW 2) (hb _) x).trans (yAll_emb 2 _ _ _ x),
    fun x => (pay6_congr (hX 1) (hW 1) (hb _) x).trans (yAll_emb 1 _ _ _ x), fun x => (pay6_congr (hX 0) (hW 0) (hb _) x).trans (yAll_emb 0 _ _ _ x), trivial⟩

/-- A tile of the second sweep leaves its combined result. -/
theorem runD_out (c : Dev nD) (i : grid0.Coords)
    (arg2 : Memref sig .tc .vmem S1x512x8x256 .f32) (harg2 : arg2.IsWhole)
    (arg3 : Memref sig .tc .vmem S1x512x8x256 .f32) (harg3 : arg3.IsWhole)
    (arg4 : Memref sig .tc .vmem S1x512x8x256 .f32) (harg4 : arg4.IsWhole)
    (arg5 : Memref sig .tc .vmem S192x2048 .f32) (harg5 : arg5.IsWhole)
    (arg6 : Memref sig .tc .vmem S1x768 .f32) (harg6 : arg6.IsWhole)
    (arg7 : Memref sig .tc .vmem S512x768 .f32) (harg7 : arg7.IsWhole)
    (arg8 : Memref sig .tc .vmem S8x256x256 .f32) (harg8 : arg8.IsWhole)
    (arg9 : Memref sig .tc .vmem S8x256x768 .bf16) (harg9 : arg9.IsWhole)
    (arg10 : Memref sig .tc .vmem S8x768x256 .bf16) (harg10 : arg10.IsWhole)
    (hc0 : ¬cP0 i) (hc3 : cP1 i)
    (x0 : Vec F S1x512x8x256 .f32) (x1 : Vec F S1x512x8x256 .f32) (x2 : Vec F S1x512x8x256 .f32)
    (x3 : Vec F S192x2048 .f32) (x4 : Vec F S1x768 .f32) (xi : Vec F S512x768 .f32)
    (s8 : Vec F S8x256x256 .f32) (s9 : Vec F S8x256x768 .bf16) (s10 : Vec F S8x768x256 .bf16) :
    arg7.view.read (Elt F) (arg7.view.writes (Elt F) (harg7.unread xi)
        (runD c i arg2 harg2 arg3 harg3 arg4 harg4 arg5 harg5 arg6 harg6 arg7 harg7 arg8 harg8 arg9 harg9 arg10 harg10 hc0 hc3 x0 x1 x2 x3 x4 xi s8 s9 s10).1)
      = outRow x2 s9 := by
  unfold runD; dsimp only
  sl_unfold_run_names
  refine (View.read_writes_eq_canon (Val := Elt F) _ _ _ (View.cover_of_wholeMem _ (by sl_whole_mem))).trans ?_
  simp (disch := decide) only [load_unread, View.ld_unit_lit']
  exact View.canon_cons_unit_lit' _ _ _ (by decide)

end Cert.KernelIdeal.Moe

end
-- ==== Proof.Ideal.Frame.lean ====
/- The kernel's invariant between grid points, the pipeline's proof data, the body at every point, the launch and the frame. -/
module

public import proofs.«01_k».proof.Proof.Ideal.Steps
public import Idealize.ShloMosaic.Lib.Claim

@[expose] public section

set_option maxRecDepth 16384

noncomputable section

namespace Cert.KernelIdeal.Moe

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents between points -/

/-- There are eight grid points. -/
theorem n8 : cfg0.N = 8 := N_0

/-- The token accumulator after `n` tiles of the first sweep: zero, then one step per tile. -/
def XD (c : Dev nD) : ℕ → Vec F S8x256x256 .f32
  | 0 => k0_pay19
  | n + 1 => if h : n < cfg0.N then xStep (k0_pay17 (iblk m c 0 ⟨n, h⟩)) (k0_pay18 (iblk m c 1 ⟨n, h⟩)) (XD c n) else XD c n

/-- One more tile. -/
theorem XD_succ (c : Dev nD) (t : Fin cfg0.N) :
    XD m c (t.val + 1) = xStep (k0_pay17 (iblk m c 0 t)) (k0_pay18 (iblk m c 1 t)) (XD m c t.val) := dif_pos t.isLt

/-- The tile of the first sweep that brings an expert's slab of the experts' matrix. -/
abbrev tileOf (e : Fin 8) : Fin cfg0.N := ⟨e.val / 2, by rw [n8]; have := e.isLt; omega⟩

/-- The experts' matrix, one slab per expert: two slabs per tile of the first sweep. -/
def WD (c : Dev nD) : Vec F S8x768x256 .bf16 := fun y =>
  if (y 0).val % 2 = 0 then k0_pay21 (iblk m c 3 (tileOf (y 0))) (ix3 (0 : Fin 1) (y 1) (y 2))
  else k0_pay22 (iblk m c 3 (tileOf (y 0))) (ix3 (0 : Fin 1) (y 1) (y 2))

/-- One more tile's slabs: if the slabs of the earlier tiles are in place, the next tile's stores put its two in place. -/
theorem WD_step (c : Dev nD) (t : Fin cfg0.N) (s : Vec F S8x768x256 .bf16)
    (hs : ∀ y : S8x768x256.Idx, (y 0).val < 2 * t.val → s y = WD m c y) (y : S8x768x256.Idx) (hy : (y 0).val < 2 * (t.val + 1)) :
    wStep t.val (iblk m c 3 t) s y = WD m c y := by
  unfold wStep
  by_cases h0 : (y 0).val = 2 * t.val
  · have ht : tileOf (y 0) = t := Fin.ext (by show (y 0).val / 2 = t.val; omega)
    rw [if_pos h0]; unfold WD; rw [if_pos (by omega), ht]
  · rw [if_neg h0]
    by_cases h1 : (y 0).val = 2 * t.val + 1
    · have ht : tileOf (y 0) = t := Fin.ext (by show (y 0).val / 2 = t.val; omega)
      rw [if_pos h1]; unfold WD; rw [if_neg (by omega), ht]
    · rw [if_neg h1]; exact hs y (by omega)

/-- The last point of the first sweep. -/
abbrev t3 : Fin cfg0.N := ⟨3, by rw [n8]; omega⟩

/-- The experts' results. -/
def YD (c : Dev nD) : Vec F S8x256x768 .bf16 := yAll (XD m c 4) (WD m c) (iblk m c 4 t3)

/-- A tile of the result. -/
def OD (c : Dev nD) (t : Fin cfg0.N) : Vec F S512x768 .f32 := outRow (iblk m c 2 t) (YD m c)

/-- What the scratch buffers hold after `n` points: the accumulator has taken the first sweep's tiles so far, the experts'
    matrix has their slabs, and from the end of the first sweep on the experts' results are in place. -/
structure Inv (c : Dev nD) (n : ℕ) (s8 : Vec F S8x256x256 .f32) (s9 : Vec F S8x256x768 .bf16) (s10 : Vec F S8x768x256 .bf16) : Prop where
  x : n ≤ 4 → s8 = XD m c n
  w : n ≤ 4 → ∀ y : S8x768x256.Idx, (y 0).val < 2 * n → s10 y = WD m c y
  y : 4 ≤ n → s9 = YD m c

/-- The region's invariant before position `n`: at the start the scratch at anything; afterwards the scratch at contents
    satisfying `Inv`; the generator's register at some state throughout. -/
def PhiS (c : Dev nD) : (n : ℕ) → n ≤ cfg0.N → sProp 𝕄
  | 0, _ => Pipeline.ΦA spec0 c
  | n + 1, _ => iprop((∃ s8 s9 s10, ⌜Inv m c (n + 1) s8 s9 s10⌝ ∗ (owns (c : Thread nD τ) mX fullShare s8
      ∗ owns (c : Thread nD τ) mY fullShare s9 ∗ owns (c : Thread nD τ) mW fullShare s10)) ∗ (∃ r, prngReg c r))

/-- At the start. -/
theorem PhiS_zero (c : Dev nD) (n : ℕ) (h : n ≤ cfg0.N) (hz : n = 0) : PhiS m c n h = Pipeline.ΦA spec0 c := by
  subst hz; rfl

/-- Before a point that is not the first. -/
theorem PhiS_pos (c : Dev nD) (n : ℕ) (h : n ≤ cfg0.N) (hz : n ≠ 0) :
    PhiS m c n h = iprop((∃ s8 s9 s10, ⌜Inv m c n s8 s9 s10⌝ ∗ (owns (c : Thread nD τ) mX fullShare s8
      ∗ owns (c : Thread nD τ) mY fullShare s9 ∗ owns (c : Thread nD τ) mW fullShare s10)) ∗ (∃ r, prngReg c r)) := by
  cases n with
  | zero => exact absurd rfl hz
  | succ n => rfl

/-! ## The pipeline's proof data -/

/-- The proof data on core `c`: the arrays as the region finds them; after the body at a point every input's buffer at its
    block and the result's at the combined tile; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => OD m c t
  Φ t := PhiS m c t.val (Nat.le_of_lt_succ t.isLt)
  q _ := fullShare
  owed _ := 0

/-- The proof data's arrays are the contents at the region's entry. -/
theorem A_eq (c : Dev nD) (w : Fin cfg0.W) : (dats m 0 c).A w = V m c (Pipeline.arrRef spec0 w) := by
  dsimp only [dats]

/-- The invariant at a point's start. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves in window 0's buffer. -/
theorem after0_0 (c : Dev nD) (t : Fin cfg0.N) : (dats m 0 c).after 0 t = iblk m c 0 t := by dsimp only [dats]
/-- What the body leaves in window 1's buffer. -/
theorem after0_1 (c : Dev nD) (t : Fin cfg0.N) : (dats m 0 c).after 1 t = iblk m c 1 t := by dsimp only [dats]
/-- What the body leaves in window 2's buffer. -/
theorem after0_2 (c : Dev nD) (t : Fin cfg0.N) : (dats m 0 c).after 2 t = iblk m c 2 t := by dsimp only [dats]
/-- What the body leaves in window 3's buffer. -/
theorem after0_3 (c : Dev nD) (t : Fin cfg0.N) : (dats m 0 c).after 3 t = iblk m c 3 t := by dsimp only [dats]
/-- What the body leaves in window 4's buffer. -/
theorem after0_4 (c : Dev nD) (t : Fin cfg0.N) : (dats m 0 c).after 4 t = iblk m c 4 t := by dsimp only [dats]
/-- What the body leaves in window 5's buffer. -/
theorem after0_5 (c : Dev nD) (t : Fin cfg0.N) : (dats m 0 c).after 5 t = OD m c t := by dsimp only [dats]
/-- Window 0's buffer holds its block when the body is called. -/
theorem before0_0 (c : Dev nD) (t : Fin cfg0.N) (d) : (dats m 0 c).before 0 t d = iblk m c 0 t :=
  before0_0_of m (dats m 0 c) (A_eq m c 0) (after0_0 m c) t d
/-- Window 1's buffer holds its block when the body is called. -/
theorem before0_1 (c : Dev nD) (t : Fin cfg0.N) (d) : (dats m 0 c).before 1 t d = iblk m c 1 t :=
  before0_1_of m (dats m 0 c) (A_eq m c 1) (after0_1 m c) t d
/-- Window 2's buffer holds its block when the body is called. -/
theorem before0_2 (c : Dev nD) (t : Fin cfg0.N) (d) : (dats m 0 c).before 2 t d = iblk m c 2 t :=
  before0_2_of m (dats m 0 c) (A_eq m c 2) (after0_2 m c) t d
/-- Window 3's buffer holds its block when the body is called. -/
theorem before0_3 (c : Dev nD) (t : Fin cfg0.N) (d) : (dats m 0 c).before 3 t d = iblk m c 3 t :=
  before0_3_of m (dats m 0 c) (A_eq m c 3) (after0_3 m c) t d
/-- Window 4's buffer holds its block when the body is called. -/
theorem before0_4 (c : Dev nD) (t : Fin cfg0.N) (d) : (dats m 0 c).before 4 t d = iblk m c 4 t :=
  before0_4_of m (dats m 0 c) (A_eq m c 4) (after0_4 m c) t d
/-- What a point returns of window 0: its buffer at its block. -/
theorem leaves0_0 (c : Dev nD) (t : Fin cfg0.N) :
    (dats m 0 c).leavesExact 0 t = owns (c : Thread nD τ) (st0 t) fullShare (iblk m c 0 t) := by
  unfold Dat.leavesExact; rw [show cfg0.idle 0 (grid0.coords t) = false from rfl, after0_0]
/-- What a point returns of window 1: its buffer at its block. -/
theorem leaves0_1 (c : Dev nD) (t : Fin cfg0.N) :
    (dats m 0 c).leavesExact 1 t = owns (c : Thread nD τ) (st1 t) fullShare (iblk m c 1 t) := by
  unfold Dat.leavesExact; rw [show cfg0.idle 1 (grid0.coords t) = false from rfl, after0_1]
/-- What a point returns of window 2: its buffer at its block. -/
theorem leaves0_2 (c : Dev nD) (t : Fin cfg0.N) :
    (dats m 0 c).leavesExact 2 t = owns (c : Thread nD τ) (st2 t) fullShare (iblk m c 2 t) := by
  unfold Dat.leavesExact; rw [show cfg0.idle 2 (grid0.coords t) = false from rfl, after0_2]
/-- What a point returns of window 3: its buffer at its block. -/
theorem leaves0_3 (c : Dev nD) (t : Fin cfg0.N) :
    (dats m 0 c).leavesExact 3 t = owns (c : Thread nD τ) (st3 t) fullShare (iblk m c 3 t) := by
  unfold Dat.leavesExact; rw [show cfg0.idle 3 (grid0.coords t) = false from rfl, after0_3]
/-- What a point returns of window 4: its buffer at its block. -/
theorem leaves0_4 (c : Dev nD) (t : Fin cfg0.N) :
    (dats m 0 c).leavesExact 4 t = owns (c : Thread nD τ) (st4 t) fullShare (iblk m c 4 t) := by
  unfold Dat.leavesExact; rw [show cfg0.idle 4 (grid0.coords t) = false from rfl, after0_4]
/-- What a point of the second sweep returns of the result's window: its buffer at the combined tile. -/
theorem leaves0_5 (c : Dev nD) (t : Fin cfg0.N) (h : 4 ≤ t.val) :
    (dats m 0 c).leavesExact 5 t = owns (c : Thread nD τ) (st5 t) fullShare (OD m c t) := by
  unfold Dat.leavesExact; rw [live5 t h, after0_5]

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 3200000 in
/-- The body at any point: the closed forms of the conditions say which of the four runs applies; the invariant hands it the
    scratch and takes it back one point on. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    show (dats m 0 c).Φ t.succ = PhiS m c (t.val + 1) t.isLt from rfl, PhiS_pos m c (t.val + 1) _ (Nat.succ_ne_zero _),
    PhiS_castSucc m c t, leaves0_0, leaves0_1, leaves0_2, leaves0_3, leaves0_4]
  have hN : t.val < 8 := lt_of_lt_of_eq t.isLt n8
  by_cases h0 : t.val < 4
  · by_cases hz : t.val = 0
    · rw [Dat.leavesExact_idle (dats m 0 c) 5 t (idle5 t h0) (noFlush5 t h0)]
      rw [PhiS_zero m c _ _ hz, rest_eq]
      iintro ⟨⟨⟨⟨%s8, HS0⟩, ⟨%s9, HS1⟩, ⟨%s10, HS2⟩⟩, Hg⟩, Ho, ⟨%d0, H0⟩, ⟨%d1, H1⟩, ⟨%d2, H2⟩, ⟨%d3, H3⟩, ⟨%d4, H4⟩, ⟨%d5, H5⟩⟩
      iapply ((runA c (grid0.coords t) _ _ _ _ _ _ _ _ _ _ _ _ _ _ _ _ _ _ ((cP0_iff t).mpr h0) ((cFirst_iff t).mpr (by omega)) (fun h => absurd ((cLast_iff t).mp h) (by omega)) (fun h => absurd ((cP1_iff t).mp h) (by omega))
        (iblk m c 0 t) (iblk m c 1 t) (iblk m c 2 t) (iblk m c 3 t) (iblk m c 4 t) _ s8 s9 s10).2.2 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, HS0, HS1, HS2⟩
      isplitl [HS0 HS1 HS2 Hg]
      · isplitl [HS0 HS1 HS2]
        · iexists (xStep (k0_pay17 (iblk m c 0 t)) (k0_pay18 (iblk m c 1 t)) k0_pay19); iexists s9; iexists (wStep t.val (iblk m c 3 t) s10)
          isplitr
          · ipureintro; exact ⟨fun _ => by rw [XD_succ, hz]; rfl, fun _ => WD_step m c t s10 (fun y hy => absurd hy (by omega)), fun h => absurd h (by omega)⟩
          isplitl [HS0]
          · unfold owns; iexists _; isplitr
            swap; · iexact HS0
            ipureintro; exact runA_x c _ _ _ _ _ _ _ _ _ _ _ _ _ _ _ _ _ _ _ _ _ _ _ _ _ _ _ _ _ _ _ _
          isplitl [HS1]
          · iexact HS1
          · unfold owns; iexists _; isplitr
            swap; · iexact HS2
            ipureintro; exact runA_w c _ _ _ _ _ _ _ _ _ _ _ _ _ _ _ _ _ _ _ _ _ _ _ _ _ _ _ _ _ _ _ _ (t.val) (by rw [off1_eq t, Nat.mod_eq_of_lt h0]) (by rw [off2_eq t, Nat.mod_eq_of_lt h0])
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · by_cases h3 : t.val = 3
      · rw [Dat.leavesExact_idle (dats m 0 c) 5 t (idle5 t h0) (noFlush5 t h0)]
        rw [PhiS_pos m c _ _ hz]
        iintro ⟨⟨⟨%s8, %s9, %s10, %hI, HS0, HS1, HS2⟩, Hg⟩, Ho, ⟨%d0, H0⟩, ⟨%d1, H1⟩, ⟨%d2, H2⟩, ⟨%d3, H3⟩, ⟨%d4, H4⟩, ⟨%d5, H5⟩⟩
        have hY : yAll (xStep (k0_pay17 (iblk m c 0 t)) (k0_pay18 (iblk m c 1 t)) s8) (wStep t.val (iblk m c 3 t) s10) (iblk m c 4 t) = YD m c := by
          have ht : t = t3 := Fin.ext (by show t.val = 3; omega)
          have hx : xStep (k0_pay17 (iblk m c 0 t)) (k0_pay18 (iblk m c 1 t)) s8 = XD m c 4 := by
            rw [hI.x (by omega), ← XD_succ]; exact congrArg (XD m c) (by omega)
          have hw : wStep t.val (iblk m c 3 t) s10 = WD m c := funext fun y =>
            WD_step m c t s10 (hI.w (by omega)) y (by have : (y 0).val < 8 := (y 0).isLt; omega)
          rw [hx, hw, ht]; rfl
        iapply ((runC c (grid0.coords t) _ _ _ _ _ _ _ _ _ _ _ _ _ _ _ _ _ _ ((cP0_iff t).mpr h0) (fun h => absurd ((cFirst_iff t).mp h) (by omega)) ((cLast_iff t).mpr (by omega)) (fun h => absurd ((cP1_iff t).mp h) (by omega))
          (iblk m c 0 t) (iblk m c 1 t) (iblk m c 2 t) (iblk m c 3 t) (iblk m c 4 t) _ s8 s9 s10).2.2.2 Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        iintro ⟨H0, H1, H2, H3, H4, H5, HS0, HS1, HS2⟩
        isplitl [HS0 HS1 HS2 Hg]
        · isplitl [HS0 HS1 HS2]
          · iexists (xStep (k0_pay17 (iblk m c 0 t)) (k0_pay18 (iblk m c 1 t)) s8); iexists (yAll (xStep (k0_pay17 (iblk m c 0 t)) (k0_pay18 (iblk m c 1 t)) s8) (wStep t.val (iblk m c 3 t) s10) (iblk m c 4 t)); iexists (wStep t.val (iblk m c 3 t) s10)
            isplitr
            · ipureintro; exact ⟨fun _ => by rw [XD_succ, ← hI.x (by omega)], fun _ => WD_step m c t s10 (hI.w (by omega)), fun _ => hY⟩
            isplitl [HS0]
            · unfold owns; iexists _; isplitr
              swap; · iexact HS0
              ipureintro; exact runC_x c _ _ _ _ _ _ _ _ _ _ _ _ _ _ _ _ _ _ _ _ _ _ _ _ _ _ _ _ _ _ _ _
            isplitl [HS1]
            · unfold owns; iexists _; isplitr
              swap; · iexact HS1
              ipureintro; exact runC_y c _ _ _ _ _ _ _ _ _ _ _ _ _ _ _ _ _ _ _ _ _ _ _ _ _ _ _ _ _ _ _ _ (t.val) (by rw [off1_eq t, Nat.mod_eq_of_lt h0]) (by rw [off2_eq t, Nat.mod_eq_of_lt h0])
            · unfold owns; iexists _; isplitr
              swap; · iexact HS2
              ipureintro; exact runC_w c _ _ _ _ _ _ _ _ _ _ _ _ _ _ _ _ _ _ _ _ _ _ _ _ _ _ _ _ _ _ _ _ (t.val) (by rw [off1_eq t, Nat.mod_eq_of_lt h0]) (by rw [off2_eq t, Nat.mod_eq_of_lt h0])
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [Dat.leavesExact_idle (dats m 0 c) 5 t (idle5 t h0) (noFlush5 t h0)]
        rw [PhiS_pos m c _ _ hz]
        iintro ⟨⟨⟨%s8, %s9, %s10, %hI, HS0, HS1, HS2⟩, Hg⟩, Ho, ⟨%d0, H0⟩, ⟨%d1, H1⟩, ⟨%d2, H2⟩, ⟨%d3, H3⟩, ⟨%d4, H4⟩, ⟨%d5, H5⟩⟩
        iapply ((runB c (grid0.coords t) _ _ _ _ _ _ _ _ _ _ _ _ _ _ _ _ _ _ ((cP0_iff t).mpr h0) (fun h => absurd ((cFirst_iff t).mp h) (by omega)) (fun h => absurd ((cLast_iff t).mp h) (by omega)) (fun h => absurd ((cP1_iff t).mp h) (by omega))
          (iblk m c 0 t) (iblk m c 1 t) (iblk m c 2 t) (iblk m c 3 t) (iblk m c 4 t) _ s8 s9 s10).2.2 Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        iintro ⟨H0, H1, H2, H3, H4, H5, HS0, HS1, HS2⟩
        isplitl [HS0 HS1 HS2 Hg]
        · isplitl [HS0 HS1 HS2]
          · iexists (xStep (k0_pay17 (iblk m c 0 t)) (k0_pay18 (iblk m c 1 t)) s8); iexists s9; iexists (wStep t.val (iblk m c 3 t) s10)
            isplitr
            · ipureintro; exact ⟨fun _ => by rw [XD_succ, ← hI.x (by omega)], fun _ => WD_step m c t s10 (hI.w (by omega)), fun h => absurd h (by omega)⟩
            isplitl [HS0]
            · unfold owns; iexists _; isplitr
              swap; · iexact HS0
              ipureintro; exact runB_x c _ _ _ _ _ _ _ _ _ _ _ _ _ _ _ _ _ _ _ _ _ _ _ _ _ _ _ _ _ _ _ _
            isplitl [HS1]
            · iexact HS1
            · unfold owns; iexists _; isplitr
              swap; · iexact HS2
              ipureintro; exact runB_w c _ _ _ _ _ _ _ _ _ _ _ _ _ _ _ _ _ _ _ _ _ _ _ _ _ _ _ _ _ _ _ _ (t.val) (by rw [off1_eq t, Nat.mod_eq_of_lt h0]) (by rw [off2_eq t, Nat.mod_eq_of_lt h0])
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · have hz : t.val ≠ 0 := by omega
    rw [leaves0_5 m c t (by omega)]
    rw [PhiS_pos m c _ _ hz]
    iintro ⟨⟨⟨%s8, %s9, %s10, %hI, HS0, HS1, HS2⟩, Hg⟩, Ho, ⟨%d0, H0⟩, ⟨%d1, H1⟩, ⟨%d2, H2⟩, ⟨%d3, H3⟩, ⟨%d4, H4⟩, ⟨%d5, H5⟩⟩
    iapply ((runD c (grid0.coords t) _ _ _ _ _ _ _ _ _ _ _ _ _ _ _ _ _ _ (fun h => absurd ((cP0_iff t).mp h) (by omega)) ((cP1_iff t).mpr (by omega))
      (iblk m c 0 t) (iblk m c 1 t) (iblk m c 2 t) (iblk m c 3 t) (iblk m c 4 t) _ s8 s9 s10).2 Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    iintro ⟨H0, H1, H2, H3, H4, H5, HS0, HS1, HS2⟩
    isplitl [HS0 HS1 HS2 Hg]
    · isplitl [HS0 HS1 HS2]
      · iexists s8; iexists s9; iexists s10
        isplitr
        · ipureintro; exact ⟨fun h => absurd h (by omega), fun h => absurd h (by omega), fun _ => hI.y (by omega)⟩
        isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact (runD_out c _ _ _ _ _ _ _ _ _ _ _ _ _ _ _ _ _ _ _ _ _ _ _ _ _ _ _ _ _ _).trans (by unfold OD; rw [hI.y (by omega)])

/-- The body table's row at a point is the body as called there. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scratch back at whatever it holds. -/
theorem hout (c : Dev nD) : (dats m 0 c).Φ (Fin.last cfg0.N) ⊢ Pipeline.ΦA spec0 c := by
  rw [show (dats m 0 c).Φ (Fin.last cfg0.N) = PhiS m c cfg0.N (Nat.le_refl _) from rfl,
    PhiS_pos m c _ _ (by rw [n8]; omega), rest_eq]
  iintro ⟨⟨%s8, %s9, %s10, %hI, HS0, HS1, HS2⟩, Hg⟩
  isplitl [HS0 HS1 HS2]
  · isplitl [HS0]
    · iexists _; iexact HS0
    isplitl [HS1]
    · iexists _; iexact HS1
    iexists _; iexact HS2
  iexact Hg

/-! ## The run and the frame -/

-- the launch theorem's implicit arguments are found by unifying its conclusion with this one
set_option backward.isDefEq.respectTransparency.types false in
set_option maxHeartbeats 800000 in
/-- The launch: every run of @main ends with the pipeline's arrays at what the proof data says and every semaphore counter
    at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The run without the counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: every run ends with the argument arrays unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Moe

end
-- ==== Proof.Ideal.Entry.lean ====
/- What the kernel's closed forms are at an index, over the extended reals. -/
module

public import proofs.«01_k».proof.Proof.Ideal.Frame
public import Idealize.ShloMosaic.Lib.Pipeline.ValueKit
public import Idealize.ShloMosaic.Lib.Pointwise

@[expose] public section

set_option maxRecDepth 16384

noncomputable section

namespace Cert.KernelIdeal.Moe

open Cert.KernelIdeal Cert.KernelIdeal.Gen
open Idealize.ShloMosaic Idealize.ShloMosaic.TcCoe Idealize.SL.Sem
open Idealize.ShloMosaic.Pipeline (Dat)

/-- One expert's slab of the accumulator after a tile, at an index. -/
theorem xRow_at (e : Fin 8) (x0 x1 : FVec Ideal S1x512x8x256 .f32) (old : FVec Ideal S1x256x256 .f32) (c i : Fin 256) :
    xRow e (k0_pay17 x0) (k0_pay18 x1) old (ix3 (0 : Fin 1) c i)
      = old (ix3 (0 : Fin 1) c i) + ∑ k : Fin 512, x1 (ix4 (0 : Fin 1) k e c) * x0 (ix4 (0 : Fin 1) k e i) := by
  pointwise [xRow, k0_pay17, k0_pay18]

/-- One expert's results, at an index. -/
theorem yRow_at (s : FVec Ideal S1x256x256 .f32) (w : FVec Ideal S1x768x256 .bf16) (b : FVec Ideal S1x768 .f32) (c : Fin 256) (o : Fin 768) :
    (k0_pay6 (F := Ideal) s w b (ix3 (0 : Fin 1) c o) : EReal)
      = (∑ i : Fin 256, s (ix3 (0 : Fin 1) c i) * w (ix3 (0 : Fin 1) o i)) + b (ix2 (0 : Fin 1) o) := by
  pointwise [k0_pay6]

/-- A tile of the result, at an index. -/
theorem outRow_at (x2 : FVec Ideal S1x512x8x256 .f32) (s : FVec Ideal S8x256x768 .bf16) (r : Fin 512) (o : Fin 768) :
    (outRow (F := Ideal) x2 s (ix2 r o) : EReal) = ∑ e : Fin 8, ∑ c : Fin 256, x2 (ix4 (0 : Fin 1) r e c) * s (ix3 e c o) := by
  rw [Fin.sum_univ_eight]
  pointwise [outRow, k0_pay5, k0_pay33, k0_pay34]

/-- A tile's first slab of the experts' matrix, at an index. -/
theorem w1_at (v : FVec Ideal S192x2048 .f32) (o : Fin 768) (i : Fin 256) :
    (k0_pay21 (F := Ideal) v (ix3 (0 : Fin 1) o i) : EReal) = v (ix2 ⟨o.val / 8, by omega⟩ ⟨o.val % 8 * 256 + i.val, by omega⟩) := by
  pointwise [k0_pay21, k0_pay20]

/-- A tile's second slab of the experts' matrix, at an index. -/
theorem w2_at (v : FVec Ideal S192x2048 .f32) (o : Fin 768) (i : Fin 256) :
    (k0_pay22 (F := Ideal) v (ix3 (0 : Fin 1) o i) : EReal) = v (ix2 ⟨96 + o.val / 8, by omega⟩ ⟨o.val % 8 * 256 + i.val, by omega⟩) := by
  pointwise [k0_pay22, k0_pay20]
  blk_ext

/-! ## The blocks -/

variable (m : (ℓ : Loc nD τ sig) → Buf (Elt Ideal) ℓ)

/-- Every window's block index at a point. -/
theorem idxs : ∀ t : Fin cfg0.N,
    win0_0.index t = ![0, if t.val < 4 then t.val else 3, 0, 0] ∧ win0_1.index t = ![0, if t.val < 4 then t.val else 3, 0, 0]
    ∧ win0_2.index t = ![0, if t.val < 4 then 0 else t.val - 4, 0, 0] ∧ win0_3.index t = ![if t.val < 4 then t.val else 3, 0]
    ∧ win0_4.index t = ![0, 0] ∧ win0_5.index t = ![if t.val < 4 then 0 else t.val - 4, 0] :=
  (by decide +kernel : ∀ t : Fin grid0.N,
    win0_0.index t = ![0, if t.val < 4 then t.val else 3, 0, 0] ∧ win0_1.index t = ![0, if t.val < 4 then t.val else 3, 0, 0]
    ∧ win0_2.index t = ![0, if t.val < 4 then 0 else t.val - 4, 0, 0] ∧ win0_3.index t = ![if t.val < 4 then t.val else 3, 0]
    ∧ win0_4.index t = ![0, 0] ∧ win0_5.index t = ![if t.val < 4 then 0 else t.val - 4, 0])

/-- The tokens' block at a tile of the first sweep. -/
theorem blk0_at (c : Dev nD) (t : Fin cfg0.N) (ht : t.val < 4) (k : Fin 512) (e : Fin 8) (i : Fin 256) :
    (show FVec Ideal S1x512x8x256 .f32 from iblk m c 0 t) (ix4 (0 : Fin 1) k e i)
      = (show FVec Ideal S1x2048x8x256 .f32 from m ((c : Thread nD τ).loc main_arg0)) (ix4 (0 : Fin 1) ⟨t.val * 512 + k.val, by omega⟩ e i) := by
  have hi := (idxs t).1
  rw [if_pos ht] at hi
  blk_ext [iblk, V, hi]

/-- The dispatch weights' block at a tile of the first sweep. -/
theorem blk1_at (c : Dev nD) (t : Fin cfg0.N) (ht : t.val < 4) (k : Fin 512) (e : Fin 8) (i : Fin 256) :
    (show FVec Ideal S1x512x8x256 .f32 from iblk m c 1 t) (ix4 (0 : Fin 1) k e i)
      = (show FVec Ideal S1x2048x8x256 .f32 from m ((c : Thread nD τ).loc main_arg2)) (ix4 (0 : Fin 1) ⟨t.val * 512 + k.val, by omega⟩ e i) := by
  have hi := (idxs t).2.1
  rw [if_pos ht] at hi
  blk_ext [iblk, V, hi]

/-- The combine weights' block at a tile of the second sweep. -/
theorem blk2_at (c : Dev nD) (t : Fin cfg0.N) (ht : 4 ≤ t.val) (k : Fin 512) (e : Fin 8) (i : Fin 256) :
    (show FVec Ideal S1x512x8x256 .f32 from iblk m c 2 t) (ix4 (0 : Fin 1) k e i)
      = (show FVec Ideal S1x2048x8x256 .f32 from m ((c : Thread nD τ).loc main_arg1))
          (ix4 (0 : Fin 1) ⟨(t.val - 4) * 512 + k.val, by have : t.val < 8 := lt_of_lt_of_eq t.isLt n8; omega⟩ e i) := by
  have hi := (idxs t).2.2.1
  rw [if_neg (by omega)] at hi
  blk_ext [iblk, V, hi]

/-- The experts' matrix's block at a tile of the first sweep. -/
theorem blk3_at (c : Dev nD) (t : Fin cfg0.N) (ht : t.val < 4) (a : Fin 192) (b : Fin 2048) :
    (show FVec Ideal S192x2048 .f32 from iblk m c 3 t) (ix2 a b)
      = (show FVec Ideal S768x2048 .f32 from m ((c : Thread nD τ).loc main_arg3)) (ix2 ⟨t.val * 192 + a.val, by omega⟩ b) := by
  have hi := (idxs t).2.2.2.1
  rw [if_pos ht] at hi
  blk_ext [iblk, V, hi]

/-- The bias as the region finds it: the argument with a leading axis of one. -/
theorem V_bias (c : Dev nD) : V m c main_v0
    = (shapeCast S1x768 (show FVec Ideal S768 .f32 from m ((c : Thread nD τ).loc main_arg4)) shapeCasts_S768_S1x768 : FVec Ideal S1x768 .f32) := by
  show StableHlo.after [hostOps0].flatten (fun b => m (c, b)) (Proc.tc.devRef main_v0) = _
  simp only [List.flatten_cons, List.flatten_nil, List.append_nil]
  after_results <;> rfl

/-- The bias's block. -/
theorem blk4_at (c : Dev nD) (t : Fin cfg0.N) (o : Fin 768) :
    (show FVec Ideal S1x768 .f32 from iblk m c 4 t) (ix2 (0 : Fin 1) o)
      = (show FVec Ideal S768 .f32 from m ((c : Thread nD τ).loc main_arg4)) (ix1 o) := by
  have hi := (idxs t).2.2.2.2.1
  have hb : (show FVec Ideal S1x768 .f32 from iblk m c 4 t) (ix2 (0 : Fin 1) o)
      = (show FVec Ideal S1x768 .f32 from V m c main_v0) (ix2 (0 : Fin 1) o) := by
    blk_ext [iblk, hi]
  rw [hb, V_bias]
  pointwise

end Cert.KernelIdeal.Moe

end
-- ==== Proof.Ideal.Value.lean ====
/- What the kernel's scratch buffers and its result hold over the extended reals, index by index, in terms of the arguments. -/
module

public import proofs.«01_k».proof.Proof.Ideal.Entry

@[expose] public section

set_option maxRecDepth 16384

noncomputable section

namespace Cert.KernelIdeal.Moe

open Cert.KernelIdeal Cert.KernelIdeal.Gen
open Idealize.ShloMosaic Idealize.ShloMosaic.TcCoe Idealize.SL.Sem
open Idealize.ShloMosaic.Pipeline (Dat)

/-! ## In terms of the arguments, at variables -/

/-- The tokens dispatched to expert `e`'s slot `c`, feature `i`. -/
def xdAt (X D : FVec Ideal S1x2048x8x256 .f32) (e : Fin 8) (c i : Fin 256) : EReal :=
  ∑ n : Fin 2048, D (ix4 (0 : Fin 1) n e c) * X (ix4 (0 : Fin 1) n e i)

/-- Expert `e`'s matrix at an output and an input feature. -/
def wAt (W : FVec Ideal S768x2048 .f32) (e : Fin 8) (o : Fin 768) (i : Fin 256) : EReal :=
  W (ix2 ⟨e.val * 96 + o.val / 8, by omega⟩ ⟨o.val % 8 * 256 + i.val, by omega⟩)

/-- Expert `e`'s result at slot `c`, output feature `o`. -/
def yAt (X D : FVec Ideal S1x2048x8x256 .f32) (W : FVec Ideal S768x2048 .f32) (b : FVec Ideal S768 .f32)
    (e : Fin 8) (c : Fin 256) (o : Fin 768) : EReal :=
  (∑ i : Fin 256, xdAt X D e c i * wAt W e o i) + b (ix1 o)

/-- The layer's result at token `n`, output feature `o`. -/
def outAt (X D C : FVec Ideal S1x2048x8x256 .f32) (W : FVec Ideal S768x2048 .f32) (b : FVec Ideal S768 .f32)
    (n : Fin 2048) (o : Fin 768) : EReal :=
  ∑ e : Fin 8, ∑ c : Fin 256, C (ix4 (0 : Fin 1) n e c) * yAt X D W b e c o

/-! ## The kernel's contents -/

variable (m : (ℓ : Loc nD τ sig) → Buf (Elt Ideal) ℓ)

/-- The tokens. -/
abbrev aX (c : Dev nD) : FVec Ideal S1x2048x8x256 .f32 := m ((c : Thread nD τ).loc main_arg0)
/-- The combine weights. -/
abbrev aC (c : Dev nD) : FVec Ideal S1x2048x8x256 .f32 := m ((c : Thread nD τ).loc main_arg1)
/-- The dispatch weights. -/
abbrev aD (c : Dev nD) : FVec Ideal S1x2048x8x256 .f32 := m ((c : Thread nD τ).loc main_arg2)
/-- The experts' matrix. -/
abbrev aW (c : Dev nD) : FVec Ideal S768x2048 .f32 := m ((c : Thread nD τ).loc main_arg3)
/-- The bias. -/
abbrev aB (c : Dev nD) : FVec Ideal S768 .f32 := m ((c : Thread nD τ).loc main_arg4)

/-- Expert `e`'s slab of the experts' matrix lies at row `e`. -/
theorem rW_emb (e : Fin 8) (x : S1x768x256.Idx) : (rW e).emb x = ix3 e (x 1) (x 2) := by
  funext a; match a with
  | ⟨0, _⟩ => refine Fin.ext ?_; show e.val + 1 * (x 0).val = e.val; have : (x 0).val < 1 := (x 0).isLt; omega
  | ⟨1, _⟩ => refine Fin.ext ?_; show 0 + 1 * (x 1).val = (x 1).val; omega
  | ⟨2, _⟩ => refine Fin.ext ?_; show 0 + 1 * (x 2).val = (x 2).val; omega

/-- One step of the accumulator, at an index. -/
theorem xStep_at (x0 x1 : FVec Ideal S1x512x8x256 .f32) (s : FVec Ideal S8x256x256 .f32) (e : Fin 8) (c i : Fin 256) :
    (xStep (F := Ideal) (k0_pay17 x0) (k0_pay18 x1) s (ix3 e c i) : EReal)
      = s (ix3 e c i) + ∑ k : Fin 512, x1 (ix4 (0 : Fin 1) k e c) * x0 (ix4 (0 : Fin 1) k e i) := by
  have h := xStep_emb (F := Ideal) e (k0_pay17 x0) (k0_pay18 x1) s (ix3 (0 : Fin 1) c i)
  rw [rX_emb] at h
  refine h.symm.trans ((xRow_at e x0 x1 _ c i).trans ?_)
  exact congrArg₂ (· + ·) (congrArg s (rX_emb e (ix3 (0 : Fin 1) c i))) rfl

/-- The accumulator after `n` tiles, at an index: the sum over the tiles so far of the sum over their tokens. -/
theorem XD_at (c : Dev nD) (n : ℕ) (hn : n ≤ 4) (e : Fin 8) (a i : Fin 256) :
    (XD m c n (ix3 e a i) : EReal) = ∑ j : Fin n, ∑ k : Fin 512,
      aD m c (ix4 (0 : Fin 1) ⟨j.val * 512 + k.val, by omega⟩ e a) * aX m c (ix4 (0 : Fin 1) ⟨j.val * 512 + k.val, by omega⟩ e i) := by
  induction n with
  | zero =>
    rw [Finset.univ_eq_empty, Finset.sum_empty]
    show (k0_pay19 (F := Ideal) (ix3 e a i) : EReal) = 0
    pointwise [k0_pay19]
  | succ n ih =>
    have ht : n < cfg0.N := by rw [n8]; omega
    rw [Fin.sum_univ_castSucc, XD_succ m c ⟨n, ht⟩]
    refine (xStep_at _ _ _ e a i).trans ?_
    refine congrArg₂ (· + ·) (ih (by omega)) (Finset.sum_congr rfl fun k _ => ?_)
    exact congrArg₂ (· * ·) (blk1_at m c ⟨n, ht⟩ (by show n < 4; omega) k e a) (blk0_at m c ⟨n, ht⟩ (by show n < 4; omega) k e i)

/-- The accumulator after the first sweep, at an index. -/
theorem XD4_at (c : Dev nD) (e : Fin 8) (a i : Fin 256) : (XD m c 4 (ix3 e a i) : EReal) = xdAt (aX m c) (aD m c) e a i := by
  rw [XD_at m c 4 (le_refl 4) e a i]
  exact Fin.sum_mul_add_fin 4 512 (fun n : Fin 2048 => aD m c (ix4 (0 : Fin 1) n e a) * aX m c (ix4 (0 : Fin 1) n e i))

/-- The experts' matrix in the scratch, at an index. -/
theorem WD_at (c : Dev nD) (e : Fin 8) (o : Fin 768) (i : Fin 256) : (WD m c (ix3 e o i) : EReal) = wAt (aW m c) e o i := by
  have ht : (tileOf e).val < 4 := by show e.val / 2 < 4; omega
  show (if e.val % 2 = 0 then k0_pay21 (F := Ideal) (iblk m c 3 (tileOf e)) (ix3 (0 : Fin 1) o i)
    else k0_pay22 (F := Ideal) (iblk m c 3 (tileOf e)) (ix3 (0 : Fin 1) o i) : EReal) = _
  unfold wAt
  split
  · refine (w1_at _ o i).trans ((blk3_at m c (tileOf e) ht _ _).trans ?_)
    exact congrArg (aW m c) (congrArg₂ ix2 (Fin.ext (by show e.val / 2 * 192 + o.val / 8 = e.val * 96 + o.val / 8; omega)) rfl)
  · refine (w2_at _ o i).trans ((blk3_at m c (tileOf e) ht _ _).trans ?_)
    exact congrArg (aW m c) (congrArg₂ ix2 (Fin.ext (by show e.val / 2 * 192 + (96 + o.val / 8) = e.val * 96 + o.val / 8; omega)) rfl)

/-- The experts' results in the scratch, at an index. -/
theorem YD_at (c : Dev nD) (e : Fin 8) (a : Fin 256) (o : Fin 768) :
    (YD m c (ix3 e a o) : EReal) = yAt (aX m c) (aD m c) (aW m c) (aB m c) e a o := by
  show (k0_pay6 (F := Ideal) (View.ld (XD m c 4) (rX e)) (View.ld (WD m c) (rW e)) (iblk m c 4 t3) (ix3 (0 : Fin 1) a o) : EReal) = _
  refine (yRow_at _ _ _ a o).trans (congrArg₂ (· + ·) (Finset.sum_congr rfl fun i _ => congrArg₂ (· * ·) ?_ ?_) (blk4_at m c t3 o))
  · exact (congrArg (XD m c 4) (rX_emb e (ix3 (0 : Fin 1) a i))).trans (XD4_at m c e a i)
  · refine Eq.trans (congrArg (WD m c) ?_) (WD_at m c e o i)
    exact rW_emb e (ix3 (0 : Fin 1) o i)

/-- A tile of the result, at an index. -/
theorem OD_at (c : Dev nD) (t : Fin cfg0.N) (ht : 4 ≤ t.val) (r : Fin 512) (o : Fin 768) :
    (OD m c t (ix2 r o) : EReal) = outAt (aX m c) (aD m c) (aC m c) (aW m c) (aB m c)
      ⟨(t.val - 4) * 512 + r.val, by have : t.val < 8 := lt_of_lt_of_eq t.isLt n8; omega⟩ o := by
  refine (outRow_at _ _ r o).trans (Finset.sum_congr rfl fun e _ => Finset.sum_congr rfl fun a _ => ?_)
  exact congrArg₂ (· * ·) (blk2_at m c t ht r e a) (YD_at m c e a o)

/-- The result array, whole. -/
def resArr (c : Dev nD) : FVec Ideal S2048x768 .f32 := fun y => outAt (aX m c) (aD m c) (aC m c) (aW m c) (aB m c) (y 0) (y 1)

/-- After the run the result array is the layer's result. -/
theorem final (c : Dev nD) : (dats m 0 c).arrAt 5 (cfgs 0).N = resArr m c := by
  refine (dats m 0 c).arrAt_eq_of_covers 5 _ (by decide +kernel) fun t hf y => ?_
  have ht : 4 ≤ t.val := by
    by_contra h
    rw [noFlush5 t (by omega)] at hf
    exact Bool.false_ne_true hf
  have hi := (idxs t).2.2.2.2.2
  rw [if_neg (by omega)] at hi
  blk_simp [hi]
  rw [after0_5]
  refine Eq.trans (congrArg (OD m c t) (show y = ix2 (y 0) (y 1) from by blk_ext)) ((OD_at m c t ht (y 0) (y 1)).trans ?_)
  unfold resArr
  refine congrArg₂ (outAt (aX m c) (aD m c) (aC m c) (aW m c) (aB m c)) (Fin.ext ?_) (Fin.ext ?_)
  · blk_simp [hi]
  · blk_simp [hi]

end Cert.KernelIdeal.Moe

end
-- ==== Proof.Ideal.Result.lean ====
/- The kernel's whole run over the extended reals: what its result buffer holds at the end. -/
module

public import proofs.«01_k».proof.Proof.Ideal.Value

@[expose] public section

set_option maxRecDepth 16384

noncomputable section

namespace Cert.KernelIdeal.Moe

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The result buffer's contents: the layer's result with a leading axis of size one. -/
def outArr (c : Dev nD) : FVec Ideal S1x2048x768 .f32 := fun j => outAt (aX m c) (aD m c) (aC m c) (aW m c) (aB m c) (j 1) (j 2)

/-- The host line after the region reshapes the region's result array. -/
theorem tail_eq (c : Dev nD) : Pipeline.afterTail₀ cfgs (dats m) 0 (V0 m) [hostOps1] c main_v2
    = (shapeCast S1x2048x768 (resArr m c) shapeCasts_S2048x768_S1x2048x768 : FVec Ideal S1x2048x768 .f32) := by
  rw [← final m c]
  have hw := Pipeline.withArrays_arr spec0 (by decide) c (V0 m c) (fun w => (dats m 0 c).arrAt w (cfgs 0).N) 5
  unfold Pipeline.afterTail₀
  simp only [List.flatten_cons, List.flatten_nil, List.append_nil]
  after_results
  exact congrArg (fun z : FVec Ideal S2048x768 .f32 => (shapeCast S1x2048x768 z shapeCasts_S2048x768_S1x2048x768 : FVec Ideal S1x2048x768 .f32)) hw

/-- The reshape only adds an axis of size one. -/
theorem out_eq (c : Dev nD) : (shapeCast S1x2048x768 (resArr m c) shapeCasts_S2048x768_S1x2048x768 : FVec Ideal S1x2048x768 .f32) = outArr m c := by
  funext j
  refine shapeCast_apply (resArr m c) shapeCasts_S2048x768_S1x2048x768 j (ix2 (j 1) (j 2)) ?_
  rewrite [Shape.rowMajor_val_two, Shape.rowMajor_val_three]
  have h0 : (j 0).val < 1 := (j 0).isLt
  show (j 1).val * 768 + (j 2).val = ((j 0).val * 2048 + (j 1).val) * 768 + (j 2).val
  omega

/-- Every run ends with the layer's result in the result buffer and the argument arrays unchanged. -/
theorem run_value : θ_run defs (onTc (τ := τ) (main (F := Ideal))) ⟨m, fun _ => 0, ρ⟩ (fun r => ∀ c : Dev nD,
      r.2.mem ((c.tc : Thread nD τ).loc main_v2) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.2.rest_eq c main_v2 (by decide)).trans (tail_eq m c)).trans (out_eq m c), h.1 c⟩)
    (θ_run_and (unchanged m ρ) (run_main m ρ))

end Cert.KernelIdeal.Moe

end
-- ==== Proof.Ideal.RefValue.lean ====
/- The reference's result over the extended reals, index by index, in terms of the arguments. -/
module

public import proofs.«01_k».proof.Proof.Ideal.Value
public import proofs.«01_k».proof.Proof.Gen.ReferenceIdeal.Run
public import proofs.«01_k».proof.Proof.Gen.ReferenceIdeal.Read
public import Idealize.ShloMosaic.Lib.Quiescent

@[expose] public section

set_option maxRecDepth 16384

noncomputable section

namespace Cert.ReferenceIdeal.Moe

open Cert.ReferenceIdeal Cert.ReferenceIdeal.Gen Cert.ReferenceIdeal.Read
open Cert.KernelIdeal.Moe (xdAt wAt yAt outAt)
open Idealize.ShloMosaic Idealize.ShloMosaic.TcCoe Idealize.SL.Sem

/-- The reference's dispatched tokens. -/
theorem v1_at (X D : FVec Ideal S1x2048x8x256 .f32) (e : Fin 8) (c i : Fin 256) :
    (val_main_v1 (F := Ideal) X D (ix4 (0 : Fin 1) e c i) : EReal) = xdAt X D e c i := by
  pointwise [val_main_v1, xdAt]

/-- The reference's experts' matrix. -/
theorem v0_at (W : FVec Ideal S768x2048 .f32) (e : Fin 8) (o : Fin 768) (i : Fin 256) :
    (val_main_v0 (F := Ideal) W (ix3 e o i) : EReal) = wAt W e o i := by
  rw [val_main_v0_apply]
  unfold wAt
  refine congrArg W (funext fun a => Fin.ext ?_)
  match a with
  | ⟨0, _⟩ => show ((e.val * 768 + o.val) * 256 + i.val) / 2048 = e.val * 96 + o.val / 8; omega
  | ⟨1, _⟩ => show ((e.val * 768 + o.val) * 256 + i.val) % 2048 = o.val % 8 * 256 + i.val; omega

/-- The reference's experts' results: the column of ones turns the bias column into one more term. -/
theorem v9_at (X D : FVec Ideal S1x2048x8x256 .f32) (W : FVec Ideal S768x2048 .f32) (b : FVec Ideal S768 .f32)
    (e : Fin 8) (o : Fin 768) (c : Fin 256) :
    (val_main_v9 (F := Ideal) X D W b (ix4 e o (0 : Fin 1) c) : EReal) = yAt X D W b e c o := by
  unfold val_main_v9 val_main_v8 val_main_v4 val_main_v7 val_main_v6 val_main_v5 val_main_v3 val_main_cst
  have h1 := v1_at X D e c
  have h0 := v0_at W e o
  generalize val_main_v1 (F := Ideal) X D = v1 at *
  generalize val_main_v0 (F := Ideal) W = v0 at *
  pointwise [yAt]
  refine congrArg₂ (· + ·) (Finset.sum_congr rfl fun i _ => ?_) (Fin.sum_univ_one _)
  rw [h0 i, h1 i]
  exact mul_comm _ _

/-- The reference's result at a token and an output feature. -/
theorem v10_at (X C D : FVec Ideal S1x2048x8x256 .f32) (W : FVec Ideal S768x2048 .f32) (b : FVec Ideal S768 .f32)
    (n : Fin 2048) (o : Fin 768) :
    (val_main_v10 (F := Ideal) X C D W b (ix3 (0 : Fin 1) n o) : EReal) = outAt X D C W b n o := by
  unfold val_main_v10
  have h := v9_at X D W b
  generalize val_main_v9 (F := Ideal) X D W b = v9 at *
  pointwise [outAt]
  rw [Finset.sum_comm]
  exact Finset.sum_congr rfl fun e _ => Finset.sum_congr rfl fun c _ => congrArg _ (h e o c)

/-- The reference's result at any index. -/
theorem v10_eq (X C D : FVec Ideal S1x2048x8x256 .f32) (W : FVec Ideal S768x2048 .f32) (b : FVec Ideal S768 .f32)
    (j : S1x2048x768.Idx) :
    (val_main_v10 (F := Ideal) X C D W b j : EReal) = outAt X D C W b (j 1) (j 2) := by
  refine Eq.trans (congrArg (val_main_v10 (F := Ideal) X C D W b) ?_) (v10_at X C D W b (j 1) (j 2))
  funext a; match a with
  | ⟨0, _⟩ => refine Fin.ext ?_; show (j 0).val = 0; have : (j 0).val < 1 := (j 0).isLt; omega
  | ⟨1, _⟩ => rfl
  | ⟨2, _⟩ => rfl

variable (m : (ℓ : Loc nD τ sig) → Buf (Elt Ideal) ℓ) (ρ : Dev nD → PrngReg)

/-- Every run of the reference leaves its argument arrays unchanged; it declares no semaphore. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h c).2, sem_eq_zero_of_no_sems (by decide) r.2⟩) (Value.run m ρ)

/-- Every run of the reference ends with the layer's result in the result buffer and the argument arrays unchanged. -/
theorem run_value : θ_run defs (onTc (τ := τ) (main (F := Ideal))) ⟨m, fun _ => 0, ρ⟩ (fun r => ∀ c : Dev nD,
      r.2.mem ((c.tc : Thread nD τ).loc main_v10)
        = (fun j => outAt (m ((c.tc : Thread nD τ).loc main_arg0)) (m ((c.tc : Thread nD τ).loc main_arg2))
            (m ((c.tc : Thread nD τ).loc main_arg1)) (m ((c.tc : Thread nD τ).loc main_arg3))
            (m ((c.tc : Thread nD τ).loc main_arg4)) (j 1) (j 2) : FVec Ideal S1x2048x768 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1.trans (val_main_v10_eq _ _ _ _ _)).trans
    (funext fun j => v10_eq _ _ _ _ _ j), (h c).2⟩) (Value.run m ρ)

end Cert.ReferenceIdeal.Moe

end
-- ==== Proof.lean ====
/- The claims of this certificate: the kernel, its reading over the extended reals and the reference run and leave their
   arguments alone, the reading preserves the kernel, and the two compute equal results. -/
module

public import proofs.«01_k».proof.Defs
public import proofs.«01_k».proof.Proof.Word.Frame
public import proofs.«01_k».proof.Proof.Ideal.Frame
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Ideal.Result
public import proofs.«01_k».proof.Proof.Ideal.RefValue
public import Idealize.ShloMosaic.Adequacy
public import Idealize.ShloMosaic.Init

@[expose] public section

noncomputable section

namespace Cert.Proof

open Idealize.ShloMosaic Idealize.SL.Sem

/-- From agreeing arguments the kernel's reading and the reference end with equal results. -/
theorem equal : Cert.algebraic_KernelIdeal_ReferenceIdeal (hKernelIdeal := Cert.KernelIdeal.Gen.facts)
    (hReferenceIdeal := Cert.ReferenceIdeal.Gen.facts) := by
  intro m g m' g' _ hagree
  refine ⟨Cert.KernelIdeal.Moe.outArr m, Cert.KernelIdeal.Moe.run_value m g,
    (θ_run Cert.ReferenceIdeal.defs _ _).mono (fun _ h c => ⟨(h c).1.trans ?_, (h c).2⟩) (Cert.ReferenceIdeal.Moe.run_value m' g')⟩
  obtain ⟨h0, h1, h2, h3, h4⟩ := hagree c
  rw [h0, h1, h2, h3, h4]
  rfl

/-- Every claim holds. -/
theorem claim : Cert.Claim := ⟨Cert.Kernel.Gen.facts, Cert.KernelIdeal.Gen.facts, Cert.ReferenceIdeal.Gen.facts,
  fun m g _ => Cert.Kernel.Moe.frame m g, fun m g _ => Cert.KernelIdeal.Moe.frame m g,
  fun m g _ => Cert.ReferenceIdeal.Moe.frame m g, trivial, equal⟩

end Cert.Proof

end
